-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64 : Shape := ⟨2, ![32, 64]⟩
abbrev S32x64x2048 : Shape := ⟨3, ![32, 64, 2048]⟩
abbrev S32x64x1x8x1024 : Shape := ⟨5, ![32, 64, 1, 8, 1024]⟩
abbrev S32x64x8 : Shape := ⟨3, ![32, 64, 8]⟩
abbrev S1024x1024 : Shape := ⟨2, ![1024, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S2048x8 : Shape := ⟨2, ![2048, 8]⟩
abbrev S2048x2048 : Shape := ⟨2, ![2048, 2048]⟩
abbrev S16384x1024 : Shape := ⟨2, ![16384, 1024]⟩
abbrev S1x1024 : Shape := ⟨2, ![1, 1024]⟩
abbrev S2048x1 : Shape := ⟨2, ![2048, 1]⟩
abbrev S256x2048 : Shape := ⟨2, ![256, 2048]⟩
abbrev S256x8 : Shape := ⟨2, ![256, 8]⟩
abbrev S256x1 : Shape := ⟨2, ![256, 1]⟩
abbrev S256x1024 : Shape := ⟨2, ![256, 1024]⟩
abbrev S128x1024 : Shape := ⟨2, ![128, 1024]⟩
abbrev S128x1016 : Shape := ⟨2, ![128, 1016]⟩
abbrev S128x8 : Shape := ⟨2, ![128, 8]⟩
abbrev S128x1008 : Shape := ⟨2, ![128, 1008]⟩
abbrev S128x16 : Shape := ⟨2, ![128, 16]⟩
abbrev S128x992 : Shape := ⟨2, ![128, 992]⟩
abbrev S128x32 : Shape := ⟨2, ![128, 32]⟩
abbrev S128x960 : Shape := ⟨2, ![128, 960]⟩
abbrev S128x64 : Shape := ⟨2, ![128, 64]⟩
abbrev S128x896 : Shape := ⟨2, ![128, 896]⟩
abbrev S128x128 : Shape := ⟨2, ![128, 128]⟩
abbrev S128x768 : Shape := ⟨2, ![128, 768]⟩
abbrev S128x256 : Shape := ⟨2, ![128, 256]⟩
abbrev S128x512 : Shape := ⟨2, ![128, 512]⟩
abbrev S1x2048x8 : Shape := ⟨3, ![1, 2048, 8]⟩
abbrev S1 : Shape := ⟨1, ![1]⟩
abbrev S1x1x1 : Shape := ⟨3, ![1, 1, 1]⟩
abbrev S256 : Shape := ⟨1, ![256]⟩
abbrev S32x64x1 : Shape := ⟨3, ![32, 64, 1]⟩

abbrev nBuf : Space → Nat
  | .hbm => 26
  | .vmem => 21
  | .smem => 0
  | _ => 0

abbrev bufTy : (tb : Table) → Fin (tcTables nBuf tb) → BufTy
  | .hbm, ⟨0, _⟩ => ⟨S32x64, .i32⟩
  | .hbm, ⟨1, _⟩ => ⟨S32x64x2048, .f32⟩
  | .hbm, ⟨2, _⟩ => ⟨S32x64x1x8x1024, .f32⟩
  | .hbm, ⟨3, _⟩ => ⟨S32x64x8, .i1⟩
  | .hbm, ⟨4, _⟩ => ⟨S1024x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S2048, .f32⟩
  | .hbm, ⟨12, _⟩ => ⟨S2048x8, .f32⟩
  | .hbm, ⟨13, _⟩ => ⟨S2048x2048, .f32⟩
  | .hbm, ⟨14, _⟩ => ⟨S16384x1024, .f32⟩
  | .hbm, ⟨15, _⟩ => ⟨S2048x8, .i1⟩
  | .hbm, ⟨16, _⟩ => ⟨S2048x8, .i8⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S2048x8, .f32⟩
  | .hbm, ⟨21, _⟩ => ⟨S2048x8, .f32⟩
  | .hbm, ⟨22, _⟩ => ⟨S2048x1, .i32⟩
  | .hbm, ⟨23, _⟩ => ⟨S32x64x8, .f32⟩
  | .hbm, ⟨24, _⟩ => ⟨S32x64x8, .f32⟩
  | .hbm, ⟨25, _⟩ => ⟨S32x64x1, .i32⟩
  | .local _ .vmem, ⟨0, _⟩ => ⟨S256x2048, .f32⟩
  | .local _ .vmem, ⟨1, _⟩ => ⟨S256x2048, .f32⟩
  | .local _ .vmem, ⟨2, _⟩ => ⟨S2048x1024, .f32⟩
  | .local _ .vmem, ⟨3, _⟩ => ⟨S2048x1024, .f32⟩
  | .local _ .vmem, ⟨4, _⟩ => ⟨S256x8, .i8⟩
  | .local _ .vmem, ⟨5, _⟩ => ⟨S256x8, .i8⟩
  | .local _ .vmem, ⟨6, _⟩ => ⟨S2048x8, .i8⟩
  | .local _ .vmem, ⟨7, _⟩ => ⟨S256x8, .f32⟩
  | .local _ .vmem, ⟨8, _⟩ => ⟨S256x8, .f32⟩
  | .local _ .vmem, ⟨9, _⟩ => ⟨S2048x1024, .f32⟩
  | .local _ .vmem, ⟨10, _⟩ => ⟨S1x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1x1024, .f32⟩
  | .local _ .vmem, ⟨15, _⟩ => ⟨S256x8, .f32⟩
  | .local _ .vmem, ⟨16, _⟩ => ⟨S256x8, .f32⟩
  | .local _ .vmem, ⟨17, _⟩ => ⟨S256x8, .f32⟩
  | .local _ .vmem, ⟨18, _⟩ => ⟨S256x8, .f32⟩
  | .local _ .vmem, ⟨19, _⟩ => ⟨S256x1, .i32⟩
  | .local _ .vmem, ⟨20, _⟩ => ⟨S256x1, .i32⟩
  | _, _ => ⟨S32x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x8 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S32x64 : Shape := ⟨2, ![32, 64]⟩
abbrev S32x64x2048 : Shape := ⟨3, ![32, 64, 2048]⟩
abbrev S32x64x1x8x1024 : Shape := ⟨5, ![32, 64, 1, 8, 1024]⟩
abbrev S32x64x8 : Shape := ⟨3, ![32, 64, 8]⟩
abbrev S1024x1024 : Shape := ⟨2, ![1024, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S2048x8 : Shape := ⟨2, ![2048, 8]⟩
abbrev S32x64x1024 : Shape := ⟨3, ![32, 64, 1024]⟩
abbrev S1x1x1024 : Shape := ⟨3, ![1, 1, 1024]⟩
abbrev S_ : Shape := ⟨0, ![]⟩
abbrev S32x64x1x1x1024 : Shape := ⟨5, ![32, 64, 1, 1, 1024]⟩
abbrev S1x1x1x1x1024 : Shape := ⟨5, ![1, 1, 1, 1, 1024]⟩
abbrev S32x64x1x1024x8 : Shape := ⟨5, ![32, 64, 1, 1024, 8]⟩
abbrev S32x64x1x1024 : Shape := ⟨4, ![32, 64, 1, 1024]⟩
abbrev S32x64x1024x8 : Shape := ⟨4, ![32, 64, 1024, 8]⟩
abbrev S32x64x1x8 : Shape := ⟨4, ![32, 64, 1, 8]⟩
abbrev S32x64x1x1x8 : Shape := ⟨5, ![32, 64, 1, 1, 8]⟩
abbrev S32x64x1 : Shape := ⟨3, ![32, 64, 1]⟩
abbrev S2048x1 : Shape := ⟨2, ![2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S32x64x2048, .f32⟩
  | .hbm, ⟨2, _⟩ => ⟨S32x64x1x8x1024, .f32⟩
  | .hbm, ⟨3, _⟩ => ⟨S32x64x8, .i1⟩
  | .hbm, ⟨4, _⟩ => ⟨S1024x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S2048, .f32⟩
  | .hbm, ⟨12, _⟩ => ⟨S2048x8, .f32⟩
  | .hbm, ⟨13, _⟩ => ⟨S32x64x1024, .f32⟩
  | .hbm, ⟨14, _⟩ => ⟨S1x1x1024, .f32⟩
  | .hbm, ⟨15, _⟩ => ⟨S32x64x1024, .f32⟩
  | .hbm, ⟨16, _⟩ => ⟨S32x64x1024, .f32⟩
  | .hbm, ⟨17, _⟩ => ⟨S_, .f32⟩
  | .hbm, ⟨18, _⟩ => ⟨S32x64x1024, .f32⟩
  | .hbm, ⟨19, _⟩ => ⟨S32x64x1024, .f32⟩
  | .hbm, ⟨20, _⟩ => ⟨S32x64x1024, .f32⟩
  | .hbm, ⟨21, _⟩ => ⟨S1x1x1024, .f32⟩
  | .hbm, ⟨22, _⟩ => ⟨S32x64x1024, .f32⟩
  | .hbm, ⟨23, _⟩ => ⟨S32x64x1024, .f32⟩
  | .hbm, ⟨24, _⟩ => ⟨S32x64x1x1x1024, .f32⟩
  | .hbm, ⟨25, _⟩ => ⟨S32x64x1x8x1024, .f32⟩
  | .hbm, ⟨26, _⟩ => ⟨S1x1x1x1x1024, .f32⟩
  | .hbm, ⟨27, _⟩ => ⟨S32x64x1x8x1024, .f32⟩
  | .hbm, ⟨28, _⟩ => ⟨S32x64x1x8x1024, .f32⟩
  | .hbm, ⟨29, _⟩ => ⟨S32x64x1x1024x8, .f32⟩
  | .hbm, ⟨30, _⟩ => ⟨S32x64x1x1024, .f32⟩
  | .hbm, ⟨31, _⟩ => ⟨S32x64x1024x8, .f32⟩
  | .hbm, ⟨32, _⟩ => ⟨S32x64x1x8, .f32⟩
  | .hbm, ⟨33, _⟩ => ⟨S32x64x1x1x8, .f32⟩
  | .hbm, ⟨34, _⟩ => ⟨S32x64x8, .f32⟩
  | .hbm, ⟨35, _⟩ => ⟨S2048x8, .i1⟩
  | .hbm, ⟨36, _⟩ => ⟨S2048x8, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i1⟩
  | .hbm, ⟨42, _⟩ => ⟨S2048x8, .i1⟩
  | .hbm, ⟨43, _⟩ => ⟨S2048x8, .i1⟩
  | .hbm, ⟨44, _⟩ => ⟨S32x64x8, .i1⟩
  | .hbm, ⟨45, _⟩ => ⟨S_, .f32⟩
  | .hbm, ⟨46, _⟩ => ⟨S_, .f32⟩
  | .hbm, ⟨47, _⟩ => ⟨S32x64x8, .f32⟩
  | .hbm, ⟨48, _⟩ => ⟨S32x64x8, .f32⟩
  | .hbm, ⟨49, _⟩ => ⟨S_, .f32⟩
  | .hbm, ⟨50, _⟩ => ⟨S32x64, .f32⟩
  | .hbm, ⟨51, _⟩ => ⟨S32x64x1, .f32⟩
  | .hbm, ⟨52, _⟩ => ⟨S32x64x8, .f32⟩
  | .hbm, ⟨53, _⟩ => ⟨S32x64x8, .f32⟩
  | .hbm, ⟨54, _⟩ => ⟨S32x64x8, .f32⟩
  | .hbm, ⟨55, _⟩ => ⟨S_, .f32⟩
  | .hbm, ⟨56, _⟩ => ⟨S_, .f32⟩
  | .hbm, ⟨57, _⟩ => ⟨S32x64x8, .f32⟩
  | .hbm, ⟨58, _⟩ => ⟨S32x64x8, .f32⟩
  | .hbm, ⟨59, _⟩ => ⟨S_, .f32⟩
  | .hbm, ⟨60, _⟩ => ⟨S32x64, .f32⟩
  | .hbm, ⟨61, _⟩ => ⟨S32x64x1, .f32⟩
  | .hbm, ⟨62, _⟩ => ⟨S32x64x8, .f32⟩
  | .hbm, ⟨63, _⟩ => ⟨S32x64x8, .f32⟩
  | .hbm, ⟨64, _⟩ => ⟨S2048x8, .f32⟩
  | .hbm, ⟨65, _⟩ => ⟨S_, .f32⟩
  | .hbm, ⟨66, _⟩ => ⟨S2048x8, .f32⟩
  | .hbm, ⟨67, _⟩ => ⟨S2048x8, .f32⟩
  | .hbm, ⟨68, _⟩ => ⟨S2048x8, .f32⟩
  | .hbm, ⟨69, _⟩ => ⟨S2048x8, .f32⟩
  | .hbm, ⟨70, _⟩ => ⟨S2048x8, .i32⟩
  | .hbm, ⟨71, _⟩ => ⟨S_, .f32⟩
  | .hbm, ⟨72, _⟩ => ⟨S_, .i32⟩
  | .hbm, ⟨73, _⟩ => ⟨S2048, .f32⟩
  | .hbm, ⟨74, _⟩ => ⟨S2048, .i32⟩
  | .hbm, ⟨75, _⟩ => ⟨S2048x1, .i32⟩
  | .hbm, ⟨76, _⟩ => ⟨S32x64x1, .i32⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_call2_v0 : Ref sig .tc := ⟨.hbm, 56, rfl⟩
abbrev main_call2_v1 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call3_v0 : Ref sig .tc := ⟨.hbm, 70, rfl⟩
abbrev main_call3_cst : Ref sig .tc := ⟨.hbm, 71, rfl⟩
abbrev main_call3_c : Ref sig .tc := ⟨.hbm, 72, rfl⟩
abbrev main_call3_v1_0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩

abbrev nD : Nat := 1
abbrev τ : Topo := Topo.v7x

variable {F : FTy → Type} [FloatOps F]
-- ==== Proof.RefRun.lean ====
/- The reference function's run, written by hand: its host operations as a list, the run of that list
   from any memory, and what each of the three result arrays holds afterwards, as the composed term of
   the arguments' contents.  The terms are named stage by stage (`refQ`, `refKeys`, `refLogits`, `refMask`,
   `refPolicy`, `refScore`, `refIndex`), so that each is read at an index on its own. -/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The query rows: the two linear layers with the rectifier between them. -/
def refQ (a1 : FVec F S32x64x2048 .f32) (a6 : FVec F S2048x1024 .f32) (a7 : FVec F S1024 .f32)
    (a8 : FVec F S1024x1024 .f32) (a9 : FVec F S1024 .f32) : FVec F S32x64x1024 .f32 :=
  addf (Host.dotGeneral dot_S32x64x1024_S1024x1024_S32x64x1024_2_0_01_1_n_n none (maximumf (addf (Host.dotGeneral dot_S32x64x2048_S2048x1024_S32x64x1024_2_0_01_1_n_n none a1 a6) (broadcastInDim S32x64x1024 ![0, 1, 2] bcast_S1x1x1024_S32x64x1024_0_1_2 (broadcastInDim S1x1x1024 ![2] bcast_S1024_S1x1x1024_2 a7))) (broadcastInDim S32x64x1024 ![] bcast_S_S32x64x1024 (constant S_ .f32 0x00000000#32))) a8) (broadcastInDim S32x64x1024 ![0, 1, 2] bcast_S1x1x1024_S32x64x1024_0_1_2 (broadcastInDim S1x1x1024 ![2] bcast_S1024_S1x1x1024_2 a9))

/-- The key of every move. -/
def refKeys (a2 : FVec F S32x64x1x8x1024 .f32) (a4 : FVec F S1024x1024 .f32) (a5 : FVec F S1024 .f32) :
    FVec F S32x64x1x8x1024 .f32 :=
  addf (Host.dotGeneral dot_S32x64x1x8x1024_S1024x1024_S32x64x1x8x1024_4_0_0123_1_n_n none a2 a4) (broadcastInDim S32x64x1x8x1024 ![0, 1, 2, 3, 4] bcast_S1x1x1x1x1024_S32x64x1x8x1024_0_1_2_3_4 (broadcastInDim S1x1x1x1x1024 ![4] bcast_S1024_S1x1x1x1x1024_4 a5))

/-- The logits: the product of each query row with its own eight keys. -/
def refLogits (q : FVec F S32x64x1024 .f32) (k : FVec F S32x64x1x8x1024 .f32) : FVec F S32x64x8 .f32 :=
  shapeCast _ (broadcastInDim S32x64x1x1x8 ![0, 1, 3, 4] bcast_S32x64x1x8_S32x64x1x1x8_0_1_3_4 (Host.dotGeneral dot_S32x64x1x1024_S32x64x1024x8_S32x64x1x8_3_2_2_3_01_01 none (shapeCast _ (shapeCast _ q shapeCasts_S32x64x1024_S32x64x1x1x1024) shapeCasts_S32x64x1x1x1024_S32x64x1x1024) (shapeCast _ (transpose S32x64x1x1024x8 [0, 1, 2, 4, 3] k transposes_S32x64x1x8x1024_S32x64x1x1024x8_0_1_2_4_3) shapeCasts_S32x64x1x1024x8_S32x64x1024x8))) shapeCasts_S32x64x1x1x8_S32x64x8

/-- The mask in force: the given one, or all ones where the given one has none set anywhere. -/
def refMask (a3 : IVec S32x64x8 1) : IVec S32x64x8 1 :=
  shapeCast _ (select (broadcastInDim S2048x8 ![] bcast_S_S2048x8 (cmpi .eq (Host.reduce IntOp.addi (extui 32 (shapeCast _ a3 shapeCasts_S32x64x8_S2048x8) natLt_1_32) (constantI S_ 32 0#32) reducesTo_S2048x8_S_d0_1 h_S_) (constantI S_ 32 0#32))) (broadcastInDim S2048x8 ![] bcast_S_S2048x8 (constantI S_ 1 1#1)) (shapeCast _ a3 shapeCasts_S32x64x8_S2048x8)) shapeCasts_S2048x8_S32x64x8

/-- The masked logits. -/
def refMasked (lg : FVec F S32x64x8 .f32) (mk : IVec S32x64x8 1) : FVec F S32x64x8 .f32 :=
  select mk lg (broadcastInDim S32x64x8 ![] bcast_S_S32x64x8 (id (constant S_ .f32 0xF149F2CA#32)))

/-- The masked exponentials, before they are divided by their sum. -/
def refExps (lg : FVec F S32x64x8 .f32) (mk : IVec S32x64x8 1) : FVec F S32x64x8 .f32 :=
  select mk (Host.exp (subf (refMasked lg mk) (broadcastInDim S32x64x8 ![0, 1, 2] bcast_S32x64x1_S32x64x8_0_1_2 (broadcastInDim S32x64x1 ![0, 1] bcast_S32x64_S32x64x1_0_1 (Host.reduce FloatOps.maximumf (refMasked lg mk) (constant S_ .f32 0xFF800000#32) reducesTo_S32x64x8_S32x64_d2 h_S_))))) (broadcastInDim S32x64x8 ![] bcast_S_S32x64x8 (id (constant S_ .f32 0x00000000#32)))

/-- The policy: the masked softmax of the logits. -/
def refPolicy (lg : FVec F S32x64x8 .f32) (mk : IVec S32x64x8 1) : FVec F S32x64x8 .f32 :=
  Host.divf (refExps lg mk) (broadcastInDim S32x64x8 ![0, 1, 2] bcast_S32x64x1_S32x64x8_0_1_2 (broadcastInDim S32x64x1 ![0, 1] bcast_S32x64_S32x64x1_0_1 (Host.reduceAdd (refExps lg mk) (constant S_ .f32 0x00000000#32) reducesTo_S32x64x8_S32x64_d2 h_S_)))

/-- The scores that are sampled from: the logarithm of the policy plus the table of noise. -/
def refScore (pol : FVec F S32x64x8 .f32) : FVec F S2048x8 .f32 :=
  addf (Host.log (addf (shapeCast _ pol shapeCasts_S32x64x8_S2048x8) (broadcastInDim S2048x8 ![] bcast_S_S2048x8 (constant S_ .f32 0x0DA24260#32)))) (fun i => FloatOps.ofBits .f32 (lit0 (S2048x8.rowMajor i)))

/-- The position of the largest score of each row. -/
def refArgmax (s : FVec F S2048x8 .f32) : IVec S2048 32 :=
  fun j => (Host.argReduce reducer_argmax_f32_i32 s (iotaInDim S2048x8 32 1) (constant S_ .f32 0xFF800000#32) (constantI S_ 32 0#32) reducesTo_S2048x8_S2048_d1 h_S_ j).2

/-- The index result. -/
def refIndex (s : FVec F S2048x8 .f32) : IVec S32x64x1 32 :=
  shapeCast _ (shapeCast _ (refArgmax s) shapeCasts_S2048_S2048x1) shapeCasts_S2048x1_S32x64x1

/-- The logits result of a memory. -/
def outLogits (m : (ℓ : Loc nD τ sig) → Buf (Elt F) ℓ) (c : Dev nD) : FVec F S32x64x8 .f32 :=
  refLogits (refQ (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))) (refKeys (m ((c.tc : Thread nD τ).loc main_arg2)) (m ((c.tc : Thread nD τ).loc main_arg4)) (m ((c.tc : Thread nD τ).loc main_arg5)))

/-- The policy result of a memory. -/
def outPolicy (m : (ℓ : Loc nD τ sig) → Buf (Elt F) ℓ) (c : Dev nD) : FVec F S32x64x8 .f32 :=
  refPolicy (outLogits m c) (refMask (m ((c.tc : Thread nD τ).loc main_arg3)))

/-- The index result of a memory. -/
def outIndex (m : (ℓ : Loc nD τ sig) → Buf (Elt F) ℓ) (c : Dev nD) : IVec S32x64x1 32 :=
  refIndex (refScore (outPolicy m c))

/-- The reference's host operations, in order. -/
abbrev ops : List (HloOp τ sig (Elt F)) :=
  [ nullary main_cst (fun i => FloatOps.ofBits .f32 (lit0 (S2048x8.rowMajor i))),
    binary main_arg1 main_arg6 main_v0 ((fun l r => Host.dotGeneral dot_S32x64x2048_S2048x1024_S32x64x1024_2_0_01_1_n_n none l r) : (⟨S32x64x2048, .f32⟩ : BufTy).Contents (Elt F) → (⟨S2048x1024, .f32⟩ : BufTy).Contents (Elt F) → (⟨S32x64x1024, .f32⟩ : BufTy).Contents (Elt F)),
    unary main_arg7 main_v1 (broadcastInDim S1x1x1024 ![2] bcast_S1024_S1x1x1024_2 : (⟨S1024, .f32⟩ : BufTy).Contents (Elt F) → (⟨S1x1x1024, .f32⟩ : BufTy).Contents (Elt F)),
    unary main_v1 main_v2 (broadcastInDim S32x64x1024 ![0, 1, 2] bcast_S1x1x1024_S32x64x1024_0_1_2 : (⟨S1x1x1024, .f32⟩ : BufTy).Contents (Elt F) → (⟨S32x64x1024, .f32⟩ : BufTy).Contents (Elt F)),
    binary main_v0 main_v2 main_v3 (addf : (⟨S32x64x1024, .f32⟩ : BufTy).Contents (Elt F) → (⟨S32x64x1024, .f32⟩ : BufTy).Contents (Elt F) → (⟨S32x64x1024, .f32⟩ : BufTy).Contents (Elt F)),
    nullary main_cst_0 (constant S_ .f32 0x00000000#32),
    unary main_cst_0 main_v4 (broadcastInDim S32x64x1024 ![] bcast_S_S32x64x1024 : (⟨S_, .f32⟩ : BufTy).Contents (Elt F) → (⟨S32x64x1024, .f32⟩ : BufTy).Contents (Elt F)),
    binary main_v3 main_v4 main_v5 (maximumf : (⟨S32x64x1024, .f32⟩ : BufTy).Contents (Elt F) → (⟨S32x64x1024, .f32⟩ : BufTy).Contents (Elt F) → (⟨S32x64x1024, .f32⟩ : BufTy).Contents (Elt F)),
    binary main_v5 main_arg8 main_v6 ((fun l r => Host.dotGeneral dot_S32x64x1024_S1024x1024_S32x64x1024_2_0_01_1_n_n none l r) : (⟨S32x64x1024, .f32⟩ : BufTy).Contents (Elt F) → (⟨S1024x1024, .f32⟩ : BufTy).Contents (Elt F) → (⟨S32x64x1024, .f32⟩ : BufTy).Contents (Elt F)),
    unary main_arg9 main_v7 (broadcastInDim S1x1x1024 ![2] bcast_S1024_S1x1x1024_2 : (⟨S1024, .f32⟩ : BufTy).Contents (Elt F) → (⟨S1x1x1024, .f32⟩ : BufTy).Contents (Elt F)),
    unary main_v7 main_v8 (broadcastInDim S32x64x1024 ![0, 1, 2] bcast_S1x1x1024_S32x64x1024_0_1_2 : (⟨S1x1x1024, .f32⟩ : BufTy).Contents (Elt F) → (⟨S32x64x1024, .f32⟩ : BufTy).Contents (Elt F)),
    binary main_v6 main_v8 main_v9 (addf : (⟨S32x64x1024, .f32⟩ : BufTy).Contents (Elt F) → (⟨S32x64x1024, .f32⟩ : BufTy).Contents (Elt F) → (⟨S32x64x1024, .f32⟩ : BufTy).Contents (Elt F)),
    reshape main_v9 main_v10 (rfl : (.f32 : EltTy) = .f32) shapeCasts_S32x64x1024_S32x64x1x1x1024,
    binary main_arg2 main_arg4 main_v11 ((fun l r => Host.dotGeneral dot_S32x64x1x8x1024_S1024x1024_S32x64x1x8x1024_4_0_0123_1_n_n none l r) : (⟨S32x64x1x8x1024, .f32⟩ : BufTy).Contents (Elt F) → (⟨S1024x1024, .f32⟩ : BufTy).Contents (Elt F) → (⟨S32x64x1x8x1024, .f32⟩ : BufTy).Contents (Elt F)),
    unary main_arg5 main_v12 (broadcastInDim S1x1x1x1x1024 ![4] bcast_S1024_S1x1x1x1x1024_4 : (⟨S1024, .f32⟩ : BufTy).Contents (Elt F) → (⟨S1x1x1x1x1024, .f32⟩ : BufTy).Contents (Elt F)),
    unary main_v12 main_v13 (broadcastInDim S32x64x1x8x1024 ![0, 1, 2, 3, 4] bcast_S1x1x1x1x1024_S32x64x1x8x1024_0_1_2_3_4 : (⟨S1x1x1x1x1024, .f32⟩ : BufTy).Contents (Elt F) → (⟨S32x64x1x8x1024, .f32⟩ : BufTy).Contents (Elt F)),
    binary main_v11 main_v13 main_v14 (addf : (⟨S32x64x1x8x1024, .f32⟩ : BufTy).Contents (Elt F) → (⟨S32x64x1x8x1024, .f32⟩ : BufTy).Contents (Elt F) → (⟨S32x64x1x8x1024, .f32⟩ : BufTy).Contents (Elt F)),
    unary main_v14 main_v15 ((transpose S32x64x1x1024x8 [0, 1, 2, 4, 3] · transposes_S32x64x1x8x1024_S32x64x1x1024x8_0_1_2_4_3) : (⟨S32x64x1x8x1024, .f32⟩ : BufTy).Contents (Elt F) → (⟨S32x64x1x1024x8, .f32⟩ : BufTy).Contents (Elt F)),
    reshape main_v10 main_v16 (rfl : (.f32 : EltTy) = .f32) shapeCasts_S32x64x1x1x1024_S32x64x1x1024,
    reshape main_v15 main_v17 (rfl : (.f32 : EltTy) = .f32) shapeCasts_S32x64x1x1024x8_S32x64x1024x8,
    binary main_v16 main_v17 main_v18 ((fun l r => Host.dotGeneral dot_S32x64x1x1024_S32x64x1024x8_S32x64x1x8_3_2_2_3_01_01 none l r) : (⟨S32x64x1x1024, .f32⟩ : BufTy).Contents (Elt F) → (⟨S32x64x1024x8, .f32⟩ : BufTy).Contents (Elt F) → (⟨S32x64x1x8, .f32⟩ : BufTy).Contents (Elt F)),
    unary main_v18 main_v19 (broadcastInDim S32x64x1x1x8 ![0, 1, 3, 4] bcast_S32x64x1x8_S32x64x1x1x8_0_1_3_4 : (⟨S32x64x1x8, .f32⟩ : BufTy).Contents (Elt F) → (⟨S32x64x1x1x8, .f32⟩ : BufTy).Contents (Elt F)),
    reshape main_v19 main_v20 (rfl : (.f32 : EltTy) = .f32) shapeCasts_S32x64x1x1x8_S32x64x8,
    reshape main_arg3 main_v21 (rfl : (.i1 : EltTy) = .i1) shapeCasts_S32x64x8_S2048x8,
    unary main_v21 main_v22 ((extui 32 · natLt_1_32) : (⟨S2048x8, .i1⟩ : BufTy).Contents (Elt F) → (⟨S2048x8, .i32⟩ : BufTy).Contents (Elt F)),
    nullary main_c (constantI S_ 32 0#32),
    binary main_v22 main_c main_v23 ((fun x v => Host.reduce IntOp.addi x v reducesTo_S2048x8_S_d0_1 h_S_) : (⟨S2048x8, .i32⟩ : BufTy).Contents (Elt F) → (⟨S_, .i32⟩ : BufTy).Contents (Elt F) → (⟨S_, .i32⟩ : BufTy).Contents (Elt F)),
    nullary main_c_1 (constantI S_ 32 0#32),
    binary main_v23 main_c_1 main_v24 (cmpi .eq : (⟨S_, .i32⟩ : BufTy).Contents (Elt F) → (⟨S_, .i32⟩ : BufTy).Contents (Elt F) → (⟨S_, .i1⟩ : BufTy).Contents (Elt F)),
    nullary main_c_2 (constantI S_ 1 1#1),
    unary main_c_2 main_v25 (broadcastInDim S2048x8 ![] bcast_S_S2048x8 : (⟨S_, .i1⟩ : BufTy).Contents (Elt F) → (⟨S2048x8, .i1⟩ : BufTy).Contents (Elt F)),
    TRef.ternary (TRef.of (T := ⟨S_, .i1⟩) main_v24) (TRef.of (T := ⟨S2048x8, .i1⟩) main_v25) (TRef.of (T := ⟨S2048x8, .i1⟩) main_v21) (TRef.of (T := ⟨S2048x8, .i1⟩) main_v26) (fun p a b => select (broadcastInDim S2048x8 ![] bcast_S_S2048x8 p) a b),
    reshape main_v26 main_v27 (rfl : (.i1 : EltTy) = .i1) shapeCasts_S2048x8_S32x64x8,
    nullary main_cst_3 (constant S_ .f32 0xF149F2CA#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S32x64x8, .f32⟩) main_call1_v1) (broadcastInDim S32x64x8 ![] bcast_S_S32x64x8),
    TRef.ternary (TRef.of (T := ⟨S32x64x8, .i1⟩) main_v27) (TRef.of (T := ⟨S32x64x8, .f32⟩) main_v20) (TRef.of (T := ⟨S32x64x8, .f32⟩) main_call1_v1) (TRef.of (T := ⟨S32x64x8, .f32⟩) main_v28) select,
    nullary main_cst_4 (constant S_ .f32 0xFF800000#32),
    binary main_v28 main_cst_4 main_v29 ((fun x v => Host.reduce FloatOps.maximumf x v reducesTo_S32x64x8_S32x64_d2 h_S_) : (⟨S32x64x8, .f32⟩ : BufTy).Contents (Elt F) → (⟨S_, .f32⟩ : BufTy).Contents (Elt F) → (⟨S32x64, .f32⟩ : BufTy).Contents (Elt F)),
    unary main_v29 main_v30 (broadcastInDim S32x64x1 ![0, 1] bcast_S32x64_S32x64x1_0_1 : (⟨S32x64, .f32⟩ : BufTy).Contents (Elt F) → (⟨S32x64x1, .f32⟩ : BufTy).Contents (Elt F)),
    unary main_v30 main_v31 (broadcastInDim S32x64x8 ![0, 1, 2] bcast_S32x64x1_S32x64x8_0_1_2 : (⟨S32x64x1, .f32⟩ : BufTy).Contents (Elt F) → (⟨S32x64x8, .f32⟩ : BufTy).Contents (Elt F)),
    binary main_v28 main_v31 main_v32 (subf : (⟨S32x64x8, .f32⟩ : BufTy).Contents (Elt F) → (⟨S32x64x8, .f32⟩ : BufTy).Contents (Elt F) → (⟨S32x64x8, .f32⟩ : BufTy).Contents (Elt F)),
    unary main_v32 main_v33 (Host.exp : (⟨S32x64x8, .f32⟩ : BufTy).Contents (Elt F) → (⟨S32x64x8, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S32x64x8, .f32⟩) main_call2_v1) (broadcastInDim S32x64x8 ![] bcast_S_S32x64x8),
    TRef.ternary (TRef.of (T := ⟨S32x64x8, .i1⟩) main_v27) (TRef.of (T := ⟨S32x64x8, .f32⟩) main_v33) (TRef.of (T := ⟨S32x64x8, .f32⟩) main_call2_v1) (TRef.of (T := ⟨S32x64x8, .f32⟩) main_v34) select,
    nullary main_cst_6 (constant S_ .f32 0x00000000#32),
    binary main_v34 main_cst_6 main_v35 ((fun x v => Host.reduceAdd x v reducesTo_S32x64x8_S32x64_d2 h_S_) : (⟨S32x64x8, .f32⟩ : BufTy).Contents (Elt F) → (⟨S_, .f32⟩ : BufTy).Contents (Elt F) → (⟨S32x64, .f32⟩ : BufTy).Contents (Elt F)),
    unary main_v35 main_v36 (broadcastInDim S32x64x1 ![0, 1] bcast_S32x64_S32x64x1_0_1 : (⟨S32x64, .f32⟩ : BufTy).Contents (Elt F) → (⟨S32x64x1, .f32⟩ : BufTy).Contents (Elt F)),
    unary main_v36 main_v37 (broadcastInDim S32x64x8 ![0, 1, 2] bcast_S32x64x1_S32x64x8_0_1_2 : (⟨S32x64x1, .f32⟩ : BufTy).Contents (Elt F) → (⟨S32x64x8, .f32⟩ : BufTy).Contents (Elt F)),
    binary main_v34 main_v37 main_v38 (Host.divf : (⟨S32x64x8, .f32⟩ : BufTy).Contents (Elt F) → (⟨S32x64x8, .f32⟩ : BufTy).Contents (Elt F) → (⟨S32x64x8, .f32⟩ : BufTy).Contents (Elt F)),
    reshape main_v38 main_v39 (rfl : (.f32 : EltTy) = .f32) shapeCasts_S32x64x8_S2048x8,
    nullary main_cst_7 (constant S_ .f32 0x0DA24260#32),
    unary main_cst_7 main_v40 (broadcastInDim S2048x8 ![] bcast_S_S2048x8 : (⟨S_, .f32⟩ : BufTy).Contents (Elt F) → (⟨S2048x8, .f32⟩ : BufTy).Contents (Elt F)),
    binary main_v39 main_v40 main_v41 (addf : (⟨S2048x8, .f32⟩ : BufTy).Contents (Elt F) → (⟨S2048x8, .f32⟩ : BufTy).Contents (Elt F) → (⟨S2048x8, .f32⟩ : BufTy).Contents (Elt F)),
    unary main_v41 main_v42 (Host.log : (⟨S2048x8, .f32⟩ : BufTy).Contents (Elt F) → (⟨S2048x8, .f32⟩ : BufTy).Contents (Elt F)),
    binary main_v42 main_cst main_v43 (addf : (⟨S2048x8, .f32⟩ : BufTy).Contents (Elt F) → (⟨S2048x8, .f32⟩ : BufTy).Contents (Elt F) → (⟨S2048x8, .f32⟩ : BufTy).Contents (Elt F)),
    TRef.nullary (TRef.of (T := ⟨S2048x8, .i32⟩) main_call3_v0) (iotaInDim S2048x8 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S2048x8, .f32⟩) main_v43) (TRef.of (T := ⟨S2048x8, .i32⟩) main_call3_v0) (TRef.of (T := ⟨S_, .f32⟩) main_call3_cst) (TRef.of (T := ⟨S_, .i32⟩) main_call3_c) (TRef.of (T := ⟨S2048, .f32⟩) main_call3_v1_0) (fun x y u v j => (Host.argReduce reducer_argmax_f32_i32 x y u v reducesTo_S2048x8_S2048_d1 h_S_ j).1),
    TRef.quaternary (TRef.of (T := ⟨S2048x8, .f32⟩) main_v43) (TRef.of (T := ⟨S2048x8, .i32⟩) main_call3_v0) (TRef.of (T := ⟨S_, .f32⟩) main_call3_cst) (TRef.of (T := ⟨S_, .i32⟩) main_call3_c) (TRef.of (T := ⟨S2048, .i32⟩) main_v44) (fun x y u v j => (Host.argReduce reducer_argmax_f32_i32 x y u v reducesTo_S2048x8_S2048_d1 h_S_ j).2),
    reshape main_v44 main_v45 (rfl : (.i32 : EltTy) = .i32) shapeCasts_S2048_S2048x1,
    reshape main_v45 main_v46 (rfl : (.i32 : EltTy) = .i32) shapeCasts_S2048x1_S32x64x1 ]

set_option maxRecDepth 8192 in
set_option maxHeartbeats 4000000 in
/-- The printed function is that list of operations. -/
theorem main_eq (c : Dev nD) : main (F := F) c = seq ops := rfl
/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., binary_bufs_sub .., unary_bufs_sub .., unary_bufs_sub .., binary_bufs_sub .., unary_bufs_sub .., reshape_bufs_sub .., reshape_bufs_sub .., binary_bufs_sub .., unary_bufs_sub .., reshape_bufs_sub .., reshape_bufs_sub .., unary_bufs_sub .., nullary_bufs_sub .., binary_bufs_sub .., nullary_bufs_sub .., binary_bufs_sub .., nullary_bufs_sub .., unary_bufs_sub .., ternary_bufs_sub .., reshape_bufs_sub .., nullary_bufs_sub .., unary_bufs_sub .., unary_bufs_sub .., ternary_bufs_sub .., nullary_bufs_sub .., binary_bufs_sub .., unary_bufs_sub .., unary_bufs_sub .., binary_bufs_sub .., unary_bufs_sub .., nullary_bufs_sub .., unary_bufs_sub .., unary_bufs_sub .., ternary_bufs_sub .., nullary_bufs_sub .., binary_bufs_sub .., unary_bufs_sub .., unary_bufs_sub .., binary_bufs_sub .., reshape_bufs_sub .., nullary_bufs_sub .., unary_bufs_sub .., binary_bufs_sub .., unary_bufs_sub .., binary_bufs_sub .., nullary_bufs_sub .., nullary_bufs_sub .., nullary_bufs_sub .., quaternary_bufs_sub .., quaternary_bufs_sub .., reshape_bufs_sub .., reshape_bufs_sub ..⟩

set_option maxRecDepth 8192 in
set_option maxHeartbeats 24800000 in
/-- Every run of the reference ends with the three results at the named terms of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = outLogits m c
      ∧ r.2.mem ((c.tc : Thread nD τ).loc main_v38) = outPolicy m c
      ∧ r.2.mem ((c.tc : Thread nD τ).loc main_v46) = outIndex m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v20).trans (by simp only [ops, TRef.nullary, TRef.quaternary, TRef.ternary, TRef.unary, TRef.toBuf, TRef.ofBuf, cast_eq]; after_results_simp <;> rfl),
      (h c main_v38).trans (by simp only [ops, TRef.nullary, TRef.quaternary, TRef.ternary, TRef.unary, TRef.toBuf, TRef.ofBuf, cast_eq]; after_results_simp <;> rfl),
      (h c main_v46).trans (by simp only [ops, TRef.nullary, TRef.quaternary, TRef.ternary, TRef.unary, TRef.toBuf, TRef.ofBuf, cast_eq]; after_results_simp <;> rfl),
      (h c main_arg0).trans (by simp only [ops, TRef.nullary, TRef.quaternary, TRef.ternary, TRef.unary, TRef.toBuf, TRef.ofBuf, cast_eq]; after_results_simp <;> rfl),
      (h c main_arg1).trans (by simp only [ops, TRef.nullary, TRef.quaternary, TRef.ternary, TRef.unary, TRef.toBuf, TRef.ofBuf, cast_eq]; after_results_simp <;> rfl),
      (h c main_arg2).trans (by simp only [ops, TRef.nullary, TRef.quaternary, TRef.ternary, TRef.unary, TRef.toBuf, TRef.ofBuf, cast_eq]; after_results_simp <;> rfl),
      (h c main_arg3).trans (by simp only [ops, TRef.nullary, TRef.quaternary, TRef.ternary, TRef.unary, TRef.toBuf, TRef.ofBuf, cast_eq]; after_results_simp <;> rfl),
      (h c main_arg4).trans (by simp only [ops, TRef.nullary, TRef.quaternary, TRef.ternary, TRef.unary, TRef.toBuf, TRef.ofBuf, cast_eq]; after_results_simp <;> rfl),
      (h c main_arg5).trans (by simp only [ops, TRef.nullary, TRef.quaternary, TRef.ternary, TRef.unary, TRef.toBuf, TRef.ofBuf, cast_eq]; after_results_simp <;> rfl),
      (h c main_arg6).trans (by simp only [ops, TRef.nullary, TRef.quaternary, TRef.ternary, TRef.unary, TRef.toBuf, TRef.ofBuf, cast_eq]; after_results_simp <;> rfl),
      (h c main_arg7).trans (by simp only [ops, TRef.nullary, TRef.quaternary, TRef.ternary, TRef.unary, TRef.toBuf, TRef.ofBuf, cast_eq]; after_results_simp <;> rfl),
      (h c main_arg8).trans (by simp only [ops, TRef.nullary, TRef.quaternary, TRef.ternary, TRef.unary, TRef.toBuf, TRef.ofBuf, cast_eq]; after_results_simp <;> rfl),
      (h c main_arg9).trans (by simp only [ops, TRef.nullary, TRef.quaternary, TRef.ternary, TRef.unary, TRef.toBuf, TRef.ofBuf, cast_eq]; after_results_simp <;> rfl),
      (h c main_arg10).trans (by simp only [ops, TRef.nullary, TRef.quaternary, TRef.ternary, TRef.unary, TRef.toBuf, TRef.ofBuf, cast_eq]; after_results_simp <;> rfl),
      (h c main_arg11).trans (by simp only [ops, TRef.nullary, TRef.quaternary, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Hand

end
-- ==== Proof.Rows.lean ====
/- The arithmetic of one row, and the two steps of it the kernel and the reference spell differently: the
   position of the largest score (a left fold over pairs in the reference, a smallest position among those that
   reach the largest value in the kernel), and the test that no bit of the mask is set (a count in integers in the
   reference, a sum of zeros and ones in floats in the kernel). -/
module

public import proofs.«01_k».proof.Proof.RefRun
public import Idealize.ShloMosaic.Lib.Pointwise
public import Idealize.ShloMosaic.Lib.StableHlo.Predicate

@[expose] public section

set_option maxRecDepth 16384

noncomputable section

namespace Cert.Hand

open Idealize.ShloMosaic Idealize.ShloMosaic.TcCoe Idealize.SL.Sem

/-- One policy entry from its row's eight logits and eight mask bits: the masked softmax. -/
def polRow (lg : Fin 8 → EReal) (mk : Fin 8 → BitVec 1) (n : Fin 8) : EReal :=
  Ideal.div
    (Scalar.select (mk n)
      (Ideal.exp (Scalar.select (mk n) (lg n) (Ideal.ofBits FTy.f32 4048155338#32) -
        Finset.fold max (Ideal.ofBits FTy.f32 4286578688#32)
          (fun x => Scalar.select (mk x) (lg x) (Ideal.ofBits FTy.f32 4048155338#32)) Finset.univ)) 0)
    (∑ x, Scalar.select (mk x)
      (Ideal.exp (Scalar.select (mk x) (lg x) (Ideal.ofBits FTy.f32 4048155338#32) -
        Finset.fold max (Ideal.ofBits FTy.f32 4286578688#32)
          (fun x => Scalar.select (mk x) (lg x) (Ideal.ofBits FTy.f32 4048155338#32)) Finset.univ)) 0)

/-- The position of a row's largest score, as the kernel takes it: the smallest of the positions whose score is
    at least the largest. -/
def argRow (s : Fin 8 → EReal) : BitVec 32 :=
  Finset.fold IntOp.minsi (2147483647#32)
    (fun x => if Finset.fold max (Ideal.ofBits FTy.f32 4286578688#32) s Finset.univ ≤ s x then BitVec.ofNat 32 x.val else 8#32)
    Finset.univ

/-- The pattern of minus infinity is the least value. -/
theorem ofBits_neg_inf : Ideal.ofBits FTy.f32 4286578688#32 = (⊥ : EReal) := by
  simp [Ideal.ofBits, Ideal.ieee]

/-- The smaller of two words is below both, and is one of them. -/
theorem minsi_toInt (a b : BitVec 32) : (IntOp.minsi a b).toInt = min a.toInt b.toInt := by
  unfold IntOp.minsi
  rw [BitVec.slt_eq_decide]
  by_cases h : a.toInt < b.toInt
  · simp [h, le_of_lt h]
  · simp [h, not_lt.1 h]

/-- A fold of the smaller-of-two is a word that is below all the entries and is one of them. -/
theorem fold_minsi_eq {α : Type} [DecidableEq α] (f : α → BitVec 32) (S : Finset α) (init k : BitVec 32)
    (hi : k.toInt ≤ init.toInt) (hle : ∀ x ∈ S, k.toInt ≤ (f x).toInt) (hmem : ∃ x ∈ S, f x = k) :
    Finset.fold IntOp.minsi init f S = k := by
  have key : ∀ S : Finset α, (∀ x ∈ S, k.toInt ≤ (f x).toInt) →
      k.toInt ≤ (Finset.fold IntOp.minsi init f S).toInt
      ∧ ∀ x ∈ S, (Finset.fold IntOp.minsi init f S).toInt ≤ (f x).toInt := by
    intro S
    induction S using Finset.induction_on with
    | empty => intro _; exact ⟨by simpa using hi, by simp⟩
    | insert a S ha ih =>
      intro h
      have ih' := ih fun x hx => h x (Finset.mem_insert_of_mem hx)
      rw [Finset.fold_insert ha]
      rw [minsi_toInt]
      refine ⟨le_min (h a (Finset.mem_insert_self ..)) ih'.1, fun x hx => ?_⟩
      rcases Finset.mem_insert.1 hx with rfl | hx
      · exact min_le_left _ _
      · exact (min_le_right _ _).trans (ih'.2 x hx)
  obtain ⟨x, hx, e⟩ := hmem
  have := key S hle
  exact BitVec.eq_of_toInt_eq (le_antisymm (e ▸ this.2 x hx) this.1)

/-- A fold of the larger-of-two from minus infinity is at least every entry. -/
theorem le_fold_max (s : Fin 8 → EReal) (x : Fin 8) :
    s x ≤ Finset.fold max (Ideal.ofBits FTy.f32 4286578688#32) s Finset.univ :=
  Finset.le_fold_max (s x) |>.2 (Or.inr ⟨x, Finset.mem_univ x, le_rfl⟩)

/-- A small position as a signed word is itself. -/
theorem toInt_pos (x : Fin 8) : (BitVec.ofNat 32 x.val).toInt = (x.val : Int) := by
  revert x; decide

/-- The position the kernel takes is the first one whose score is largest. -/
theorem argRow_eq (s : Fin 8 → EReal) (k : Fin 8) (hmax : ∀ x, s x ≤ s k) (hfirst : ∀ x, s x = s k → k ≤ x) :
    argRow s = BitVec.ofNat 32 k.val := by
  have hM : Finset.fold max (Ideal.ofBits FTy.f32 4286578688#32) s Finset.univ = s k := by
    apply le_antisymm
    · rw [Finset.fold_max_le]
      exact ⟨by rw [ofBits_neg_inf]; exact bot_le, fun x _ => hmax x⟩
    · exact le_fold_max s k
  unfold argRow
  rw [hM]
  refine fold_minsi_eq _ _ _ _ ?_ (fun x _ => ?_) ⟨k, Finset.mem_univ k, if_pos le_rfl⟩
  · rw [toInt_pos]; have := k.isLt; have h2 : (2147483647#32 : BitVec 32).toInt = 2147483647 := by decide
    omega
  · split
    · rename_i h
      rw [toInt_pos, toInt_pos]
      have := hfirst x (le_antisymm (hmax x) h)
      have h' : k.val ≤ x.val := this
      omega
    · rw [toInt_pos]; have := k.isLt; have h2 : (8#32 : BitVec 32).toInt = 8 := by decide
      omega

open Cert.ReferenceIdeal in
/-- One step of the reference's fold: the pair of larger value, and of equal ones that of smaller position. -/
theorem step_eq (a b : EReal × BitVec 32) :
    reducer_argmax_f32_i32 (F := Ideal) a b
      = if b.1 < a.1 then a else if a.1 = b.1 ∧ a.2.toInt < b.2.toInt then a else b := by
  obtain ⟨a, i⟩ := a
  obtain ⟨b, j⟩ := b
  have c1 : FloatOps.cmpf (F := Ideal) (φ := .f32) .ogt a b = BitVec.ofBool (decide (b < a)) := rfl
  have c2 : FloatOps.cmpf (F := Ideal) (φ := .f32) .une a a = 0#1 := by
    show BitVec.ofBool (decide (a ≠ a)) = 0#1
    simp
  have c3 : FloatOps.cmpf (F := Ideal) (φ := .f32) .oeq a b = BitVec.ofBool (decide (a = b)) := rfl
  have c4 : IntOp.cmpi .slt i j = BitVec.ofBool (decide (i.toInt < j.toInt)) := by
    show BitVec.ofBool (i.slt j) = _
    rw [BitVec.slt_eq_decide]
  unfold reducer_argmax_f32_i32
  dsimp only
  rw [c1, c2, c3, c4]
  by_cases h : b < a
  · rw [if_pos h, decide_eq_true h]
    generalize decide (a = b) = p
    generalize decide (i.toInt < j.toInt) = q
    cases p <;> cases q <;> rfl
  · rw [if_neg h, decide_eq_false h]
    by_cases e : a = b
    · by_cases hi : i.toInt < j.toInt
      · rw [if_pos ⟨e, hi⟩, decide_eq_true e, decide_eq_true hi]
        show (b, i) = (a, i)
        rw [e]
      · rw [if_neg fun h => hi h.2, decide_eq_true e, decide_eq_false hi]
        rfl
    · rw [if_neg fun h => e h.1, decide_eq_false e]
      generalize decide (i.toInt < j.toInt) = q
      cases q <;> rfl

open Cert.ReferenceIdeal in
/-- What the reference's fold ends with: a pair of the list or the initial one, its value at least every other,
    its position at most those of the pairs of the same value. -/
theorem fold_pairs (L : List (EReal × BitVec 32)) : ∀ p : EReal × BitVec 32,
    let r := L.foldl (reducer_argmax_f32_i32 (F := Ideal)) p
    (r = p ∨ r ∈ L) ∧ ∀ q, q = p ∨ q ∈ L → q.1 ≤ r.1 ∧ (q.1 = r.1 → r.2.toInt ≤ q.2.toInt) := by
  induction L with
  | nil => intro p; exact ⟨Or.inl rfl, fun q hq => by
      rcases hq with rfl | h
      · exact ⟨le_rfl, fun _ => le_rfl⟩
      · exact absurd h (by simp)⟩
  | cons b L ih =>
    intro p
    have h := ih (reducer_argmax_f32_i32 (F := Ideal) p b)
    have hs := step_eq p b
    have hpick : reducer_argmax_f32_i32 (F := Ideal) p b = p ∨ reducer_argmax_f32_i32 (F := Ideal) p b = b := by
      rw [hs]; split
      · exact Or.inl rfl
      · split
        · exact Or.inl rfl
        · exact Or.inr rfl
    have hbest : ∀ q, q = p ∨ q = b → q.1 ≤ (reducer_argmax_f32_i32 (F := Ideal) p b).1
        ∧ (q.1 = (reducer_argmax_f32_i32 (F := Ideal) p b).1 → (reducer_argmax_f32_i32 (F := Ideal) p b).2.toInt ≤ q.2.toInt) := by
      rw [hs]
      intro q hq
      by_cases h1 : b.1 < p.1
      · rw [if_pos h1]
        rcases hq with rfl | rfl
        · exact ⟨le_rfl, fun _ => le_rfl⟩
        · exact ⟨h1.le, fun e => absurd e h1.ne⟩
      · rw [if_neg h1]
        by_cases h2 : p.1 = b.1 ∧ p.2.toInt < b.2.toInt
        · rw [if_pos h2]
          rcases hq with rfl | rfl
          · exact ⟨le_rfl, fun _ => le_rfl⟩
          · exact ⟨h2.1.ge, fun _ => h2.2.le⟩
        · rw [if_neg h2]
          rcases hq with rfl | rfl
          · exact ⟨not_lt.1 h1, fun e => not_lt.1 fun h => h2 ⟨e, h⟩⟩
          · exact ⟨le_rfl, fun _ => le_rfl⟩
    refine ⟨?_, ?_⟩
    · rcases h.1 with e | hm
      · rcases hpick with e' | e'
        · exact Or.inl (e.trans e')
        · exact Or.inr (by rw [List.foldl_cons, e, e']; exact List.mem_cons_self ..)
      · exact Or.inr (List.mem_cons_of_mem _ hm)
    · intro q hq
      have hq' : (q = p ∨ q = b) ∨ q ∈ L := by
        rcases hq with e | hm
        · exact Or.inl (Or.inl e)
        · rcases List.mem_cons.1 hm with e | hm
          · exact Or.inl (Or.inr e)
          · exact Or.inr hm
      rcases hq' with hpb | hm
      · have a1 := hbest q hpb
        have a2 := h.2 _ (Or.inl rfl)
        refine ⟨a1.1.trans a2.1, fun e => ?_⟩
        have e1 : q.1 = (reducer_argmax_f32_i32 (F := Ideal) p b).1 := le_antisymm a1.1 (a2.1.trans e.ge)
        exact (a2.2 (e1.symm.trans e)).trans (a1.2 e1)
      · exact h.2 q (Or.inr hm)

open Cert.ReferenceIdeal Cert.ReferenceIdeal.Hand Cert.ReferenceIdeal.Gen in
/-- The reference's position of a row's largest score is the kernel's. -/
theorem refArgmax_at (s : FVec Ideal S2048x8 .f32) (R : Fin 2048) :
    refArgmax s (ix1 R) = argRow (fun x => s (ix2 R x)) := by
  unfold refArgmax
  rw [Ideal.argReduce_eq_reduce2, Host.reduce2_eq_foldl_fiber]
  have hmem : ∀ q : EReal × BitVec 32, q ∈ Host.argReduceFiber s (iotaInDim S2048x8 32 1) reducesTo_S2048x8_S2048_d1 (ix1 R)
      ↔ ∃ x : Fin 8, q = (s (ix2 R x), BitVec.ofNat 32 x.val) := by
    intro q
    unfold Host.argReduceFiber
    simp only [List.mem_map, List.mem_filter, List.mem_finRange, true_and, decide_eq_true_eq]
    have hd : ∀ i : S2048x8.Idx, reducesTo_S2048x8_S2048_d1.drop i = ix1 R ↔ i 0 = R := fun i => by
      have hv : (reducesTo_S2048x8_S2048_d1.drop i 0 : Nat) = i 0 := Shape.ReducesTo.drop_apply_val _ i 0
      constructor
      · intro e; rw [e] at hv; exact Fin.ext hv.symm
      · intro e; funext b; have hb : b = 0 := Subsingleton.elim _ _; subst hb; exact Fin.ext (by rw [hv, e]; rfl)
    constructor
    · rintro ⟨n, hn, rfl⟩
      have h0 := (hd _).1 hn
      refine ⟨S2048x8.rowMajor.symm n 1, ?_⟩
      have : S2048x8.rowMajor.symm n = ix2 R (S2048x8.rowMajor.symm n 1) := by
        funext b; match b with | ⟨0, _⟩ => exact h0 | ⟨1, _⟩ => rfl
      refine Prod.ext (congrArg s this) rfl
    · rintro ⟨x, rfl⟩
      refine ⟨S2048x8.rowMajor (ix2 R x), ?_, ?_⟩
      · rw [Equiv.symm_apply_apply]; exact (hd _).2 rfl
      · rw [Equiv.symm_apply_apply]; rfl
  generalize Host.argReduceFiber s (iotaInDim S2048x8 32 1) reducesTo_S2048x8_S2048_d1 (ix1 R) = L at hmem ⊢
  have h := fold_pairs L (constant (F := Ideal) S_ .f32 0xFF800000#32 (Shape.Idx.first h_S_), constantI S_ 32 0#32 (Shape.Idx.first h_S_))
  have hbot : (constant (F := Ideal) S_ .f32 0xFF800000#32 (Shape.Idx.first h_S_) : EReal) = ⊥ := ofBits_neg_inf
  have hz : constantI S_ 32 0#32 (Shape.Idx.first h_S_) = 0#32 := rfl
  rw [hbot, hz] at h ⊢
  generalize hr : L.foldl (reducer_argmax_f32_i32 (F := Ideal)) ((⊥ : EReal), 0#32) = r at h ⊢
  have hx : ∀ x : Fin 8, s (ix2 R x) ≤ r.1 ∧ (s (ix2 R x) = r.1 → r.2.toInt ≤ (x.val : Int)) := fun x => by
    have := h.2 (s (ix2 R x), BitVec.ofNat 32 x.val) (Or.inr ((hmem _).2 ⟨x, rfl⟩))
    rw [toInt_pos] at this
    exact this
  have hk : ∃ k : Fin 8, r.1 = s (ix2 R k) ∧ r.2 = BitVec.ofNat 32 k.val := by
    rcases h.1 with e | hm
    · refine ⟨0, ?_, by rw [e]; rfl⟩
      have := (hx 0).1
      rw [e] at this ⊢
      exact (le_bot_iff.1 this).symm
    · obtain ⟨k, e⟩ := (hmem r).1 hm
      exact ⟨k, by rw [e], by rw [e]⟩
  obtain ⟨k, h1, h2⟩ := hk
  rw [h2]
  refine (argRow_eq _ k (fun x => h1 ▸ (hx x).1) fun x e => ?_).symm
  have := (hx x).2 (e.trans h1.symm)
  rw [h2, toInt_pos] at this
  exact Fin.le_def.2 (by omega)

/-- A one-bit word widened to 32 bits counts as its value. -/
theorem bit_toNat_le (b : BitVec 1) : (BitVec.setWidth 32 b).toNat ≤ 1 := by revert b; decide

/-- A fold of word addition from zero is the word of the sum of the values. -/
theorem fold_addi_eq {α : Type} [DecidableEq α] (f : α → BitVec 32) (S : Finset α) :
    Finset.fold IntOp.addi (0#32) f S = BitVec.ofNat 32 (∑ x ∈ S, (f x).toNat) := by
  induction S using Finset.induction_on with
  | empty => simp
  | insert a S ha ih =>
    rw [Finset.fold_insert ha, ih, Finset.sum_insert ha, BitVec.ofNat_add, BitVec.ofNat_toNat, BitVec.setWidth_eq]
    rfl

/-- The count of set bits of a mask is zero exactly when none is set. -/
theorem count_zero_iff (a : Fin 2048 × Fin 8 → BitVec 1) :
    Finset.fold IntOp.addi (0#32) (fun x => BitVec.setWidth 32 (a x)) Finset.univ = 0#32 ↔ ∀ x, a x ≠ 1#1 := by
  rw [fold_addi_eq]
  have hle : ∑ x : Fin 2048 × Fin 8, (BitVec.setWidth 32 (a x)).toNat ≤ 16384 := by
    refine (Finset.sum_le_card_nsmul _ _ 1 fun x _ => bit_toNat_le (a x)).trans ?_
    simp
  have hbit : ∀ b : BitVec 1, (BitVec.setWidth 32 b).toNat = 0 ↔ b ≠ 1#1 := by decide
  constructor
  · intro e
    have e' : ∑ x : Fin 2048 × Fin 8, (BitVec.setWidth 32 (a x)).toNat = 0 := by
      have := congrArg BitVec.toNat e
      simp only [BitVec.toNat_ofNat] at this
      omega
    intro x
    have h1 := Finset.single_le_sum (f := fun x => (BitVec.setWidth 32 (a x)).toNat)
      (fun x _ => Nat.zero_le _) (Finset.mem_univ x)
    exact (hbit (a x)).1 (Nat.le_zero.1 (h1.trans e'.le))
  · intro h
    have e : ∑ x : Fin 2048 × Fin 8, (BitVec.setWidth 32 (a x)).toNat = 0 :=
      Finset.sum_eq_zero fun x _ => (hbit (a x)).2 (h x)
    generalize ∑ x : Fin 2048 × Fin 8, (BitVec.setWidth 32 (a x)).toNat = w at e ⊢
    rw [e]

/-- A one-bit word widened to eight bits, as a number, is one when set and zero otherwise. -/
theorem bit_float (b : BitVec 1) :
    (((BitVec.setWidth 8 b).toInt : ℝ) : EReal) = if b = 1#1 then 1 else 0 := by
  have h : b = 0#1 ∨ b = 1#1 := by revert b; decide
  rcases h with rfl | rfl
  · have : (BitVec.setWidth 8 (0#1)).toInt = 0 := by decide
    rw [this]; simp
  · have : (BitVec.setWidth 8 (1#1)).toInt = 1 := by decide
    rw [this]; simp

/-- A set bit widened and read as a number is positive, a clear one is not. -/
theorem bit_pos (b : BitVec 1) :
    BitVec.ofBool (decide ((0 : EReal) < (((BitVec.setWidth 8 b).toInt : ℝ) : EReal))) = b := by
  rw [bit_float]
  have h : b = 0#1 ∨ b = 1#1 := by revert b; decide
  rcases h with rfl | rfl <;> simp

/-- The sum of a mask's bits as numbers is positive exactly when one is set. -/
theorem sum_pos_iff (a : Fin 2048 → Fin 8 → BitVec 1) :
    (0 : EReal) < ∑ x, ∑ y, (((BitVec.setWidth 8 (a x y)).toInt : ℝ) : EReal) ↔ ∃ x y, a x y = 1#1 := by
  have hnn : ∀ x y, (0 : EReal) ≤ (((BitVec.setWidth 8 (a x y)).toInt : ℝ) : EReal) := fun x y => by
    rw [bit_float]; split
    · exact zero_le_one
    · exact le_rfl
  constructor
  · intro h
    by_contra hc
    have hz : ∀ x y, (((BitVec.setWidth 8 (a x y)).toInt : ℝ) : EReal) = 0 := fun x y => by
      rw [bit_float, if_neg fun e => hc ⟨x, y, e⟩]
    simp only [hz, Finset.sum_const_zero, lt_irrefl] at h
  · rintro ⟨x, y, e⟩
    have h1 : (0 : EReal) < (((BitVec.setWidth 8 (a x y)).toInt : ℝ) : EReal) := by
      rw [bit_float, if_pos e]; exact zero_lt_one
    refine h1.trans_le ?_
    refine (Finset.single_le_sum (f := fun y => (((BitVec.setWidth 8 (a x y)).toInt : ℝ) : EReal)) (fun y _ => hnn x y) (Finset.mem_univ y)).trans ?_
    exact Finset.single_le_sum (f := fun x => ∑ y, (((BitVec.setWidth 8 (a x y)).toInt : ℝ) : EReal))
      (fun x _ => Finset.sum_nonneg fun y _ => hnn x y) (Finset.mem_univ x)

/-- The mask in force at a bit, in the kernel's spelling and in the reference's. -/
theorem mask_eq (a : Fin 2048 → Fin 8 → BitVec 1) (b : BitVec 1) :
    IntOp.ori (BitVec.ofBool (decide ((0 : EReal) < (((BitVec.setWidth 8 b).toInt : ℝ) : EReal))))
      (Scalar.xori (BitVec.ofBool (decide ((0 : EReal) < ∑ x, ∑ y, (((BitVec.setWidth 8 (a x y)).toInt : ℝ) : EReal)))) 1#1)
    = Scalar.select (IntOp.cmpi CmpIPredicate.eq
        (Finset.fold IntOp.addi (0#32) (fun x : Fin 2048 × Fin 8 => BitVec.setWidth 32 (a x.1 x.2)) Finset.univ) 0#32) (1#1) b := by
  rw [bit_pos]
  have hc := count_zero_iff fun x => a x.1 x.2
  have hb : b = 0#1 ∨ b = 1#1 := by revert b; decide
  by_cases h : ∃ x y, a x y = 1#1
  · have h1 := (sum_pos_iff a).2 h
    have h2 : Finset.fold IntOp.addi (0#32) (fun x : Fin 2048 × Fin 8 => BitVec.setWidth 32 (a x.1 x.2)) Finset.univ ≠ 0#32 := fun e => by
      obtain ⟨x, y, e1⟩ := h
      exact hc.1 e (x, y) e1
    rw [decide_eq_true h1]
    generalize Finset.fold IntOp.addi (0#32) (fun x : Fin 2048 × Fin 8 => BitVec.setWidth 32 (a x.1 x.2)) Finset.univ = w at h2 ⊢
    have h3 : IntOp.cmpi CmpIPredicate.eq w 0#32 = 0#1 := by
      show BitVec.ofBool (w == 0#32) = 0#1
      rw [beq_eq_false_iff_ne.2 h2]; rfl
    rw [h3]
    rcases hb with rfl | rfl <;> decide
  · have h1 : ¬ (0 : EReal) < ∑ x, ∑ y, (((BitVec.setWidth 8 (a x y)).toInt : ℝ) : EReal) := fun e => h ((sum_pos_iff a).1 e)
    have h2 := hc.2 fun x e => h ⟨x.1, x.2, e⟩
    rw [decide_eq_false h1, h2]
    rcases hb with rfl | rfl <;> decide

end Cert.Hand

end
-- ==== Proof.KerBody.lean ====
/- The kernel body's values read at an index, in exact arithmetic.  The logits of a tile are taken from a
   128 by 1024 product by keeping the band of eight columns that belong to each row and adding up seven
   rotations of the lanes; `rolled_row` says those seven steps add up all 128 lanes a multiple of eight apart,
   and `tile_at` that only the row's own lane is left. -/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

/-- One row of a tile, its lanes repeated with period 1024. -/
def rowN (x : FVec Ideal S128x1024 .f32) (r : Fin 128) (c : ℕ) : EReal :=
  x (ix2 r ⟨c % 1024, Nat.mod_lt _ (by decide)⟩)

/-- A tile plus the tile with its lanes rotated left by 8. -/
def roll8 (x : FVec Ideal S128x1024 .f32) : FVec Ideal S128x1024 .f32 :=
  addf x (concatenate S128x1024 1 [⟨S128x1016, extractStridedSlice S128x1016 ![0, 8] x slices_S128x1024_o0_8_S128x1016⟩, ⟨S128x8, extractStridedSlice S128x8 ![0, 0] x slices_S128x1024_o0_0_S128x8⟩] concatenates_S128x1016_S128x8_S128x1024_d1)

/-- Each lane of it is the lane plus the one 8 further, around the end of the row. -/
theorem roll8_row (x : FVec Ideal S128x1024 .f32) (r : Fin 128) (c : ℕ) :
    rowN (roll8 x) r c = rowN x r c + rowN x r (c + 8) := by
  unfold rowN
  pointwise [roll8]
  congr 1
  have hc : c % 1024 < 1024 := Nat.mod_lt _ (by decide)
  split
  · rename_i h
    have h' : c % 1024 < 1016 := h
    congr 2; apply Fin.ext; show 8 + c % 1024 = (c + 8) % 1024; omega
  · rename_i h
    have h' : ¬ c % 1024 < 1016 := h
    congr 2; apply Fin.ext; show c % 1024 - 1016 = (c + 8) % 1024; omega

/-- A tile plus the tile with its lanes rotated left by 16. -/
def roll16 (x : FVec Ideal S128x1024 .f32) : FVec Ideal S128x1024 .f32 :=
  addf x (concatenate S128x1024 1 [⟨S128x1008, extractStridedSlice S128x1008 ![0, 16] x slices_S128x1024_o0_16_S128x1008⟩, ⟨S128x16, extractStridedSlice S128x16 ![0, 0] x slices_S128x1024_o0_0_S128x16⟩] concatenates_S128x1008_S128x16_S128x1024_d1)

/-- Each lane of it is the lane plus the one 16 further, around the end of the row. -/
theorem roll16_row (x : FVec Ideal S128x1024 .f32) (r : Fin 128) (c : ℕ) :
    rowN (roll16 x) r c = rowN x r c + rowN x r (c + 16) := by
  unfold rowN
  pointwise [roll16]
  congr 1
  have hc : c % 1024 < 1024 := Nat.mod_lt _ (by decide)
  split
  · rename_i h
    have h' : c % 1024 < 1008 := h
    congr 2; apply Fin.ext; show 16 + c % 1024 = (c + 16) % 1024; omega
  · rename_i h
    have h' : ¬ c % 1024 < 1008 := h
    congr 2; apply Fin.ext; show c % 1024 - 1008 = (c + 16) % 1024; omega

/-- A tile plus the tile with its lanes rotated left by 32. -/
def roll32 (x : FVec Ideal S128x1024 .f32) : FVec Ideal S128x1024 .f32 :=
  addf x (concatenate S128x1024 1 [⟨S128x992, extractStridedSlice S128x992 ![0, 32] x slices_S128x1024_o0_32_S128x992⟩, ⟨S128x32, extractStridedSlice S128x32 ![0, 0] x slices_S128x1024_o0_0_S128x32⟩] concatenates_S128x992_S128x32_S128x1024_d1)

/-- Each lane of it is the lane plus the one 32 further, around the end of the row. -/
theorem roll32_row (x : FVec Ideal S128x1024 .f32) (r : Fin 128) (c : ℕ) :
    rowN (roll32 x) r c = rowN x r c + rowN x r (c + 32) := by
  unfold rowN
  pointwise [roll32]
  congr 1
  have hc : c % 1024 < 1024 := Nat.mod_lt _ (by decide)
  split
  · rename_i h
    have h' : c % 1024 < 992 := h
    congr 2; apply Fin.ext; show 32 + c % 1024 = (c + 32) % 1024; omega
  · rename_i h
    have h' : ¬ c % 1024 < 992 := h
    congr 2; apply Fin.ext; show c % 1024 - 992 = (c + 32) % 1024; omega

/-- A tile plus the tile with its lanes rotated left by 64. -/
def roll64 (x : FVec Ideal S128x1024 .f32) : FVec Ideal S128x1024 .f32 :=
  addf x (concatenate S128x1024 1 [⟨S128x960, extractStridedSlice S128x960 ![0, 64] x slices_S128x1024_o0_64_S128x960⟩, ⟨S128x64, extractStridedSlice S128x64 ![0, 0] x slices_S128x1024_o0_0_S128x64⟩] concatenates_S128x960_S128x64_S128x1024_d1)

/-- Each lane of it is the lane plus the one 64 further, around the end of the row. -/
theorem roll64_row (x : FVec Ideal S128x1024 .f32) (r : Fin 128) (c : ℕ) :
    rowN (roll64 x) r c = rowN x r c + rowN x r (c + 64) := by
  unfold rowN
  pointwise [roll64]
  congr 1
  have hc : c % 1024 < 1024 := Nat.mod_lt _ (by decide)
  split
  · rename_i h
    have h' : c % 1024 < 960 := h
    congr 2; apply Fin.ext; show 64 + c % 1024 = (c + 64) % 1024; omega
  · rename_i h
    have h' : ¬ c % 1024 < 960 := h
    congr 2; apply Fin.ext; show c % 1024 - 960 = (c + 64) % 1024; omega

/-- A tile plus the tile with its lanes rotated left by 128. -/
def roll128 (x : FVec Ideal S128x1024 .f32) : FVec Ideal S128x1024 .f32 :=
  addf x (concatenate S128x1024 1 [⟨S128x896, extractStridedSlice S128x896 ![0, 128] x slices_S128x1024_o0_128_S128x896⟩, ⟨S128x128, extractStridedSlice S128x128 ![0, 0] x slices_S128x1024_o0_0_S128x128⟩] concatenates_S128x896_S128x128_S128x1024_d1)

/-- Each lane of it is the lane plus the one 128 further, around the end of the row. -/
theorem roll128_row (x : FVec Ideal S128x1024 .f32) (r : Fin 128) (c : ℕ) :
    rowN (roll128 x) r c = rowN x r c + rowN x r (c + 128) := by
  unfold rowN
  pointwise [roll128]
  congr 1
  have hc : c % 1024 < 1024 := Nat.mod_lt _ (by decide)
  split
  · rename_i h
    have h' : c % 1024 < 896 := h
    congr 2; apply Fin.ext; show 128 + c % 1024 = (c + 128) % 1024; omega
  · rename_i h
    have h' : ¬ c % 1024 < 896 := h
    congr 2; apply Fin.ext; show c % 1024 - 896 = (c + 128) % 1024; omega

/-- A tile plus the tile with its lanes rotated left by 256. -/
def roll256 (x : FVec Ideal S128x1024 .f32) : FVec Ideal S128x1024 .f32 :=
  addf x (concatenate S128x1024 1 [⟨S128x768, extractStridedSlice S128x768 ![0, 256] x slices_S128x1024_o0_256_S128x768⟩, ⟨S128x256, extractStridedSlice S128x256 ![0, 0] x slices_S128x1024_o0_0_S128x256⟩] concatenates_S128x768_S128x256_S128x1024_d1)

/-- Each lane of it is the lane plus the one 256 further, around the end of the row. -/
theorem roll256_row (x : FVec Ideal S128x1024 .f32) (r : Fin 128) (c : ℕ) :
    rowN (roll256 x) r c = rowN x r c + rowN x r (c + 256) := by
  unfold rowN
  pointwise [roll256]
  congr 1
  have hc : c % 1024 < 1024 := Nat.mod_lt _ (by decide)
  split
  · rename_i h
    have h' : c % 1024 < 768 := h
    congr 2; apply Fin.ext; show 256 + c % 1024 = (c + 256) % 1024; omega
  · rename_i h
    have h' : ¬ c % 1024 < 768 := h
    congr 2; apply Fin.ext; show c % 1024 - 768 = (c + 256) % 1024; omega

/-- A tile plus the tile with its lanes rotated left by 512. -/
def roll512 (x : FVec Ideal S128x1024 .f32) : FVec Ideal S128x1024 .f32 :=
  addf x (concatenate S128x1024 1 [⟨S128x512, extractStridedSlice S128x512 ![0, 512] x slices_S128x1024_o0_512_S128x512⟩, ⟨S128x512, extractStridedSlice S128x512 ![0, 0] x slices_S128x1024_o0_0_S128x512⟩] concatenates_S128x512_S128x512_S128x1024_d1)

/-- Each lane of it is the lane plus the one 512 further, around the end of the row. -/
theorem roll512_row (x : FVec Ideal S128x1024 .f32) (r : Fin 128) (c : ℕ) :
    rowN (roll512 x) r c = rowN x r c + rowN x r (c + 512) := by
  unfold rowN
  pointwise [roll512]
  congr 1
  have hc : c % 1024 < 1024 := Nat.mod_lt _ (by decide)
  split
  · rename_i h
    have h' : c % 1024 < 512 := h
    congr 2; apply Fin.ext; show 512 + c % 1024 = (c + 512) % 1024; omega
  · rename_i h
    have h' : ¬ c % 1024 < 512 := h
    congr 2; apply Fin.ext; show c % 1024 - 512 = (c + 512) % 1024; omega

/-- All seven rotations. -/
def rolled (x : FVec Ideal S128x1024 .f32) : FVec Ideal S128x1024 .f32 :=
  roll512 (roll256 (roll128 (roll64 (roll32 (roll16 (roll8 x))))))

/-- Two runs of lanes, the second starting where the first ends, are one run twice as long. -/
theorem run_double (f : ℕ → EReal) (n c : ℕ) :
    (∑ j ∈ Finset.range n, f (c + 8 * j)) + (∑ j ∈ Finset.range n, f (c + 8 * n + 8 * j))
      = ∑ j ∈ Finset.range (n + n), f (c + 8 * j) := by
  rw [Finset.sum_range_add]
  congr 1
  refine Finset.sum_congr rfl fun j _ => ?_
  congr 1; ring

/-- After the seven rotations each lane holds the sum of the 128 lanes a multiple of eight away. -/
theorem rolled_row (x : FVec Ideal S128x1024 .f32) (r : Fin 128) (c : ℕ) :
    rowN (rolled x) r c = ∑ j ∈ Finset.range 128, rowN x r (c + 8 * j) := by
  have h1 : ∀ c, rowN (roll8 x) r c = ∑ j ∈ Finset.range 2, rowN x r (c + 8 * j) := fun c => by
    rw [roll8_row, Finset.sum_range_succ, Finset.sum_range_one]; rfl
  have h2 : ∀ c, rowN (roll16 (roll8 x)) r c = ∑ j ∈ Finset.range 4, rowN x r (c + 8 * j) := fun c => by
    rw [roll16_row, h1, h1]; exact run_double _ 2 c
  have h3 : ∀ c, rowN (roll32 (roll16 (roll8 x))) r c = ∑ j ∈ Finset.range 8, rowN x r (c + 8 * j) := fun c => by
    rw [roll32_row, h2, h2]; exact run_double _ 4 c
  have h4 : ∀ c, rowN (roll64 (roll32 (roll16 (roll8 x)))) r c = ∑ j ∈ Finset.range 16, rowN x r (c + 8 * j) := fun c => by
    rw [roll64_row, h3, h3]; exact run_double _ 8 c
  have h5 : ∀ c, rowN (roll128 (roll64 (roll32 (roll16 (roll8 x))))) r c = ∑ j ∈ Finset.range 32, rowN x r (c + 8 * j) := fun c => by
    rw [roll128_row, h4, h4]; exact run_double _ 16 c
  have h6 : ∀ c, rowN (roll256 (roll128 (roll64 (roll32 (roll16 (roll8 x)))))) r c = ∑ j ∈ Finset.range 64, rowN x r (c + 8 * j) := fun c => by
    rw [roll256_row, h5, h5]; exact run_double _ 32 c
  unfold rolled
  rw [roll512_row, h6, h6]; exact run_double _ 64 c

/-- The band: which lanes belong to which row. -/
def band : IVec S128x1024 1 :=
  k0_pay7 (iota .tc S128x1024 32 [0] iota_S128x1024_d0_w32) (iota .tc S128x1024 32 [1] iota_S128x1024_d1_w32) 8#32 k0_pay5 k0_pay6 0#32

/-- The kernel's floor division by eight, on the lane numbers. -/
theorem lane_div (c : Fin 1024) :
    (Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 c.val) 8#32) 0#32))
        (IntOp.subi (IntOp.divsi ArithUnit.vector (BitVec.ofNat 32 c.val) 8#32) 1#32)
        (IntOp.divsi ArithUnit.vector (BitVec.ofNat 32 c.val) 8#32)) = BitVec.ofNat 32 (c.val / 8) := by
  revert c
  decide +kernel

/-- A lane is in a row's band exactly when its number over eight is the row's. -/
theorem band_at (i : S128x1024.Idx) : band i = if (i 1).val / 8 = (i 0).val then 1#1 else 0#1 := by
  unfold band
  pointwise [k0_pay7, k0_pay5, k0_pay6]
  rw [lane_div (i 1)]
  have h0 : (i 0).val < 128 := (i 0).isLt
  have h1 : (i 1).val < 1024 := (i 1).isLt
  by_cases h : (i 1).val / 8 = (i 0).val
  · rw [if_pos h, h]; simp [IntOp.cmpi]
  · rw [if_neg h]
    have : BitVec.ofNat 32 ((i 1).val / 8) ≠ BitVec.ofNat 32 (i 0).val := fun e => h (by
      have := congrArg BitVec.toNat e
      simp only [BitVec.toNat_ofNat] at this
      omega)
    show BitVec.ofBool (_ == _) = 0#1
    rw [beq_eq_false_iff_ne.2 this]; rfl

/-- The eight first lanes of the rotated band of a product: each row's own eight lanes of it. -/
def tile (d : FVec Ideal S128x1024 .f32) : FVec Ideal S128x8 .f32 :=
  extractStridedSlice S128x8 ![0, 0]
    (rolled (select band d (broadcast S128x1024 (Scalar.ofBits .f32 0x00000000#32)))) slices_S128x1024_o0_0_S128x8

/-- Row `r`, position `n` of a tile is lane `8 r + n` of the product's row `r`. -/
theorem tile_at (d : FVec Ideal S128x1024 .f32) (r : Fin 128) (n : Fin 8) :
    tile d (ix2 r n) = d (ix2 r ⟨8 * r.val + n.val, by omega⟩) := by
  have hs : tile d (ix2 r n)
      = rowN (rolled (select band d (broadcast S128x1024 (Scalar.ofBits .f32 0x00000000#32)))) r n.val := by
    unfold rowN
    pointwise [tile]
    congr 2; apply Fin.ext; show n.val = n.val % 1024; omega
  rw [hs, rolled_row, Finset.sum_eq_single r.val]
  · unfold rowN
    pointwise
    rw [band_at, if_pos]
    · simp only [Scalar.select]
      rw [if_pos (by decide)]
      congr 2; apply Fin.ext; show (n.val + 8 * r.val) % 1024 = 8 * r.val + n.val; omega
    · show (n.val + 8 * r.val) % 1024 / 8 = r.val; omega
  · intro j hj hne
    have hj' := Finset.mem_range.1 hj
    unfold rowN
    pointwise
    rw [band_at, if_neg]
    · simp [Scalar.select]
    · show ¬ (n.val + 8 * j) % 1024 / 8 = r.val; omega
  · intro h; exact absurd (Finset.mem_range.2 r.isLt) h

/-- The first tile's logits are the tile of the product of the first half of the rows. -/
theorem pay8_at (q : FVec Ideal S256x1024 .f32) (k : FVec Ideal S2048x1024 .f32) (r : Fin 128) (n : Fin 8) :
    k0_pay8 (F := Ideal) q k (iota .tc S128x1024 32 [0] iota_S128x1024_d0_w32) (iota .tc S128x1024 32 [1] iota_S128x1024_d1_w32) 8#32 k0_pay5 k0_pay6 0#32 (ix2 r n)
      = ∑ x : Fin 1024, q (ix2 ⟨r.val, by omega⟩ x) * k (ix2 ⟨8 * r.val + n.val, by omega⟩ x) := by
  refine (show _ = tile (matmul dot_S128x1024_S1024x1024_S128x1024_1_1_0_0_n_n none
    (extractStridedSlice S128x1024 ![0, 0] q slices_S256x1024_o0_0_S128x1024)
    (extractStridedSlice S1024x1024 ![0, 0] k slices_S2048x1024_o0_0_S1024x1024)
    (constant S128x1024 .f32 0x00000000#32)) (ix2 r n) from rfl).trans ?_
  rw [tile_at]
  pointwise

/-- The logits of a block: each row's product with its own eight keys. -/
theorem pay10_at (q : FVec Ideal S256x1024 .f32) (k : FVec Ideal S2048x1024 .f32) (y : Fin 256) (n : Fin 8) :
    k0_pay10 (F := Ideal) band (k0_pay8 (F := Ideal) q k (iota .tc S128x1024 32 [0] iota_S128x1024_d0_w32) (iota .tc S128x1024 32 [1] iota_S128x1024_d1_w32) 8#32 k0_pay5 k0_pay6 0#32) (k0_pay9 (F := Ideal) q k) (Scalar.ofBits .f32 0x00000000#32) (ix2 y n)
      = ∑ x : Fin 1024, q (ix2 y x) * k (ix2 ⟨8 * y.val + n.val, by omega⟩ x) := by
  have h8 := pay8_at q k
  revert h8
  generalize k0_pay8 (F := Ideal) q k (iota .tc S128x1024 32 [0] iota_S128x1024_d0_w32) (iota .tc S128x1024 32 [1] iota_S128x1024_d1_w32) 8#32 k0_pay5 k0_pay6 0#32 = a
  intro h8
  refine (show _ = concatenate S256x8 0 [⟨S128x8, a⟩, ⟨S128x8, tile (k0_pay9 (F := Ideal) q k)⟩] concatenates_S128x8_S128x8_S256x8_d0 (ix2 y n) from rfl).trans ?_
  by_cases hy : y.val < 128
  · have e : concatenate S256x8 0 [⟨S128x8, a⟩, ⟨S128x8, tile (k0_pay9 (F := Ideal) q k)⟩] concatenates_S128x8_S128x8_S256x8_d0 (ix2 y n) = a (ix2 ⟨y.val, hy⟩ n) := by
      pointwise
      rw [dif_pos hy]
    rw [e, h8]
  · have e : concatenate S256x8 0 [⟨S128x8, a⟩, ⟨S128x8, tile (k0_pay9 (F := Ideal) q k)⟩] concatenates_S128x8_S128x8_S256x8_d0 (ix2 y n) = tile (k0_pay9 (F := Ideal) q k) (ix2 ⟨y.val - 128, by omega⟩ n) := by
      pointwise
      rw [dif_neg hy]
    rw [e, tile_at]
    pointwise [k0_pay9]
    refine Finset.sum_congr rfl fun x _ => ?_
    congr 3 <;> (apply Fin.ext; simp; omega)

end Cert.KernelIdeal.Hand

end
-- ==== Proof.KerVal.lean ====
/- The kernel's three result arrays after its run: at each row and position, the reference's terms of the
   argument arrays. -/
module

public import proofs.«01_k».proof.Proof.Rows
public import proofs.«01_k».proof.Proof.KerBody
public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Cert.Hand Cert.ReferenceIdeal.Hand
open Idealize.ShloMosaic.Pipeline (Dat)

variable (m : (ℓ : Loc nD τ sig) → Buf (Elt Ideal) ℓ)

/-- Which block of its array each window is on at a point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] :=
  (by decide +kernel : ∀ t : Fin grid0.N, _)

/-- A reshape of the first operand's argument at an index. -/
theorem cast_v0 (x : FVec Ideal S32x64x2048 .f32) (i : S2048x2048.Idx) : shapeCast S2048x2048 x shapeCasts_S32x64x2048_S2048x2048 i
    = x (ix3 ⟨(i 0).val / 64, by have := (i 0).isLt; show _ < 32; change (i 0).val < 2048 at this; omega⟩ ⟨(i 0).val % 64, Nat.mod_lt _ (by decide)⟩ (i 1)) := by
  pointwise

/-- A reshape of the second operand's argument at an index. -/
theorem cast_v1 (x : FVec Ideal S32x64x1x8x1024 .f32) (i : S16384x1024.Idx) : shapeCast S16384x1024 x shapeCasts_S32x64x1x8x1024_S16384x1024 i
    = x (ix5 ⟨(i 0).val / 512, by have := (i 0).isLt; show _ < 32; change (i 0).val < 16384 at this; omega⟩ ⟨(i 0).val / 8 % 64, Nat.mod_lt _ (by decide)⟩ 0 ⟨(i 0).val % 8, Nat.mod_lt _ (by decide)⟩ (i 1)) := by
  pointwise

/-- A reshape of the mask, widened, at an index. -/
theorem cast_v3 (x : IVec S32x64x8 1) (i : S2048x8.Idx) : extui 8 (shapeCast S2048x8 x shapeCasts_S32x64x8_S2048x8) natLt_1_8 i
    = BitVec.setWidth 8 (x (ix3 ⟨(i 0).val / 64, by have := (i 0).isLt; show _ < 32; change (i 0).val < 2048 at this; omega⟩ ⟨(i 0).val % 64, Nat.mod_lt _ (by decide)⟩ (i 1))) := by
  pointwise

/-- The rows of the first operand, the two leading axes of the argument in one. -/
theorem read_v0 (c : Dev nD) (i : S2048x2048.Idx) : V m c main_v0 i
    = m ((c : Thread nD τ).loc main_arg1) (ix3 ⟨(i 0).val / 64, by have := (i 0).isLt; show _ < 32; change (i 0).val < 2048 at this; omega⟩ ⟨(i 0).val % 64, Nat.mod_lt _ (by decide)⟩ (i 1)) := by
  have e : V m c main_v0 = shapeCast S2048x2048 (m ((c : Thread nD τ).loc main_arg1)) shapeCasts_S32x64x2048_S2048x2048 := by
    show StableHlo.after [hostOps0].flatten _ _ = _
    simp only [hostOps0, List.flatten_cons, List.flatten_nil, List.append_nil]
    after_results_simp <;> rfl
  exact (congrFun e i).trans (cast_v0 _ i)

/-- The rows of the second operand, the four leading axes of the argument in one. -/
theorem read_v1 (c : Dev nD) (i : S16384x1024.Idx) : V m c main_v1 i
    = m ((c : Thread nD τ).loc main_arg2) (ix5 ⟨(i 0).val / 512, by have := (i 0).isLt; show _ < 32; change (i 0).val < 16384 at this; omega⟩ ⟨(i 0).val / 8 % 64, Nat.mod_lt _ (by decide)⟩ 0 ⟨(i 0).val % 8, Nat.mod_lt _ (by decide)⟩ (i 1)) := by
  have e : V m c main_v1 = shapeCast S16384x1024 (m ((c : Thread nD τ).loc main_arg2)) shapeCasts_S32x64x1x8x1024_S16384x1024 := by
    show StableHlo.after [hostOps0].flatten _ _ = _
    simp only [hostOps0, List.flatten_cons, List.flatten_nil, List.append_nil]
    after_results_simp <;> rfl
  exact (congrFun e i).trans (cast_v1 _ i)

/-- The mask operand, each bit of the argument widened to eight. -/
theorem read_v3 (c : Dev nD) (i : S2048x8.Idx) : V m c main_v3 i
    = BitVec.setWidth 8 (m ((c : Thread nD τ).loc main_arg3) (ix3 ⟨(i 0).val / 64, by have := (i 0).isLt; show _ < 32; change (i 0).val < 2048 at this; omega⟩ ⟨(i 0).val % 64, Nat.mod_lt _ (by decide)⟩ (i 1))) := by
  have e : V m c main_v3 = extui 8 (shapeCast S2048x8 (m ((c : Thread nD τ).loc main_arg3)) shapeCasts_S32x64x8_S2048x8) natLt_1_8 := by
    show StableHlo.after [hostOps0].flatten _ _ = _
    simp only [hostOps0, List.flatten_cons, List.flatten_nil, List.append_nil]
    after_results_simp <;> rfl
  exact (congrFun e i).trans (cast_v3 _ i)

/-- The noise operand is the table. -/
theorem read_cst (c : Dev nD) (i : S2048x8.Idx) : V m c main_cst i
    = Ideal.ofBits .f32 (lit0 (S2048x8.rowMajor i)) := by
  have e : V m c main_cst = (fun i => FloatOps.ofBits (F := Ideal) .f32 (lit0 (S2048x8.rowMajor i))) := by
    show StableHlo.after [hostOps0].flatten _ _ = _
    simp only [hostOps0, List.flatten_cons, List.flatten_nil, List.append_nil]
    after_results_simp <;> rfl
  rw [e]
  rfl

/-- The first bias as a row. -/
theorem read_v4 (c : Dev nD) (i : S1x1024.Idx) : V m c main_v4 i = m ((c : Thread nD τ).loc main_arg7) (ix1 (i 1)) := by
  have e : V m c main_v4 = shapeCast S1x1024 (m ((c : Thread nD τ).loc main_arg7)) shapeCasts_S1024_S1x1024 := by
    show StableHlo.after [hostOps0].flatten _ _ = _
    simp only [hostOps0, List.flatten_cons, List.flatten_nil, List.append_nil]
    after_results_simp <;> rfl
  rw [e]
  pointwise

/-- The second bias as a row. -/
theorem read_v5 (c : Dev nD) (i : S1x1024.Idx) : V m c main_v5 i = m ((c : Thread nD τ).loc main_arg9) (ix1 (i 1)) := by
  have e : V m c main_v5 = shapeCast S1x1024 (m ((c : Thread nD τ).loc main_arg9)) shapeCasts_S1024_S1x1024 := by
    show StableHlo.after [hostOps0].flatten _ _ = _
    simp only [hostOps0, List.flatten_cons, List.flatten_nil, List.append_nil]
    after_results_simp <;> rfl
  rw [e]
  pointwise

/-- The keys' bias as a row. -/
theorem read_v6 (c : Dev nD) (i : S1x1024.Idx) : V m c main_v6 i = m ((c : Thread nD τ).loc main_arg5) (ix1 (i 1)) := by
  have e : V m c main_v6 = shapeCast S1x1024 (m ((c : Thread nD τ).loc main_arg5)) shapeCasts_S1024_S1x1024 := by
    show StableHlo.after [hostOps0].flatten _ _ = _
    simp only [hostOps0, List.flatten_cons, List.flatten_nil, List.append_nil]
    after_results_simp <;> rfl
  rw [e]
  pointwise

/-- The logits of a memory's arguments. -/
def kLogits (c : Dev nD) : FVec Ideal S32x64x8 .f32 :=
  refLogits (refQ (m ((c : Thread nD τ).loc main_arg1)) (m ((c : Thread nD τ).loc main_arg6)) (m ((c : Thread nD τ).loc main_arg7)) (m ((c : Thread nD τ).loc main_arg8)) (m ((c : Thread nD τ).loc main_arg9)))
    (refKeys (m ((c : Thread nD τ).loc main_arg2)) (m ((c : Thread nD τ).loc main_arg4)) (m ((c : Thread nD τ).loc main_arg5)))

/-- The logits row of global row `256 t + y`. -/
theorem logits_point (c : Dev nD) (t : Fin cfg0.N) (ht : t.val < 8) (y : Fin 256) (n : Fin 8) :
    k0_pay10 (F := Ideal) band (k0_pay8 (F := Ideal) (k0_pay3 (iblk m c 0 t) (iblk m c 5 t) (iblk m c 6 t) (iblk m c 7 t) (iblk m c 8 t)) (k0_pay4 (iblk m c 1 t) (iblk m c 9 t) (iblk m c 10 t)) (iota .tc S128x1024 32 [0] iota_S128x1024_d0_w32) (iota .tc S128x1024 32 [1] iota_S128x1024_d1_w32) 8#32 k0_pay5 k0_pay6 0#32)
      (k0_pay9 (F := Ideal) (k0_pay3 (iblk m c 0 t) (iblk m c 5 t) (iblk m c 6 t) (iblk m c 7 t) (iblk m c 8 t)) (k0_pay4 (iblk m c 1 t) (iblk m c 9 t) (iblk m c 10 t))) (Scalar.ofBits .f32 0x00000000#32) (ix2 y n)
      = kLogits m c (ix3 ⟨(256 * t.val + y.val) / 64, by omega⟩ ⟨(256 * t.val + y.val) % 64, by omega⟩ n) := by
  refine (pay10_at _ _ y n).trans ?_
  pointwise [k0_pay3, k0_pay4, kLogits, refLogits, refQ, refKeys]
  blk_point [iblk, V, idx t]
  · refine (read_v0 m c _).trans ?_; blk_ext [idx t]
  · refine (read_v4 m c _).trans ?_; blk_ext [idx t]
  · refine (read_v5 m c _).trans ?_; blk_ext [idx t]
  · refine (read_v1 m c _).trans ?_; blk_ext [idx t]
  · refine (read_v6 m c _).trans ?_; blk_ext [idx t]

/-- The mask in force of a memory's arguments. -/
def kMask (c : Dev nD) : IVec S32x64x8 1 := refMask (m ((c : Thread nD τ).loc main_arg3))

/-- The mask block at a point. -/
theorem blk2_at (c : Dev nD) (t : Fin cfg0.N) (ht : t.val < 8) (y : Fin 256) (n : Fin 8) :
    iblk m c 2 t (ix2 y n) = BitVec.setWidth 8 (m ((c : Thread nD τ).loc main_arg3) (ix3 ⟨(256 * t.val + y.val) / 64, by omega⟩ ⟨(256 * t.val + y.val) % 64, by omega⟩ n)) := by
  blk_simp [iblk]
  refine (read_v3 m c _).trans (congrArg _ ?_)
  blk_ext [idx t]

/-- The whole mask, the same at every point. -/
theorem blk3_at (c : Dev nD) (t : Fin cfg0.N) (R : Fin 2048) (n : Fin 8) :
    iblk m c 3 t (ix2 R n) = BitVec.setWidth 8 (m ((c : Thread nD τ).loc main_arg3) (ix3 ⟨R.val / 64, by omega⟩ ⟨R.val % 64, by omega⟩ n)) := by
  blk_simp [iblk]
  refine (read_v3 m c _).trans (congrArg _ ?_)
  blk_ext [idx t]

/-- The noise block at a point. -/
theorem blk4_at (c : Dev nD) (t : Fin cfg0.N) (ht : t.val < 8) (y : Fin 256) (n : Fin 8) :
    iblk m c 4 t (ix2 y n) = Ideal.ofBits .f32 (lit0 (S2048x8.rowMajor (ix2 ⟨256 * t.val + y.val, by omega⟩ n))) := by
  blk_simp [iblk]
  refine (read_cst m c _).trans ?_
  refine congrArg (fun i => Ideal.ofBits .f32 (lit0 (S2048x8.rowMajor i))) ?_
  blk_ext [idx t]

/-- The mask value at an index. -/
theorem pay11_at (v : Vec Ideal S2048x8 .i8) (w : Vec Ideal S256x8 .i8) (y : Fin 256) (n : Fin 8) :
    k0_pay11 (F := Ideal) v w (ix2 y n)
      = IntOp.ori (BitVec.ofBool (decide ((0 : EReal) < (((w (ix2 y n)).toInt : ℝ) : EReal))))
        (Scalar.xori (BitVec.ofBool (decide ((0 : EReal) < ∑ x : Fin 2048, ∑ z : Fin 8, (((v (ix2 x z)).toInt : ℝ) : EReal)))) 1#1) := by
  pointwise [k0_pay11]
  rfl

/-- The reference's mask in force at an index. -/
theorem refMask_at (a3 : IVec S32x64x8 1) (a : Fin 32) (b : Fin 64) (n : Fin 8) :
    refMask a3 (ix3 a b n) = Scalar.select (IntOp.cmpi CmpIPredicate.eq
        (Finset.fold IntOp.addi (0#32) (fun x : Fin 2048 × Fin 8 => BitVec.setWidth 32 (a3 (ix3 ⟨x.1.val / 64, by omega⟩ ⟨x.1.val % 64, by omega⟩ x.2))) Finset.univ) 0#32)
      (1#1) (a3 (ix3 a b n)) := by
  pointwise [refMask]

/-- The mask row of global row `256 t + y`. -/
theorem mask_point (c : Dev nD) (t : Fin cfg0.N) (ht : t.val < 8) (y : Fin 256) (n : Fin 8) :
    k0_pay11 (F := Ideal) (iblk m c 3 t) (iblk m c 2 t) (ix2 y n)
      = kMask m c (ix3 ⟨(256 * t.val + y.val) / 64, by omega⟩ ⟨(256 * t.val + y.val) % 64, by omega⟩ n) := by
  refine (pay11_at _ _ y n).trans ?_
  have h3 : (fun (x : Fin 2048) (z : Fin 8) => (((iblk m c 3 t (ix2 x z) : BitVec 8).toInt : ℝ) : EReal))
      = fun (x : Fin 2048) (z : Fin 8) => (((BitVec.setWidth 8 (m ((c : Thread nD τ).loc main_arg3) (ix3 ⟨x.val / 64, by omega⟩ ⟨x.val % 64, by omega⟩ z)) : BitVec 8).toInt : ℝ) : EReal) := by
    funext x z; rw [blk3_at]
  have h2 := blk2_at m c t ht y n
  refine Eq.trans ?_ ((mask_eq (fun x z => m ((c : Thread nD τ).loc main_arg3) (ix3 ⟨x.val / 64, by omega⟩ ⟨x.val % 64, by omega⟩ z))
    (m ((c : Thread nD τ).loc main_arg3) (ix3 ⟨(256 * t.val + y.val) / 64, by omega⟩ ⟨(256 * t.val + y.val) % 64, by omega⟩ n))).trans ?_)
  · exact congr (congrArg (fun (w : BitVec 8) z => IntOp.ori (BitVec.ofBool (decide ((0 : EReal) < ((w.toInt : ℝ) : EReal)))) z) h2)
      (congrArg (fun f : Fin 2048 → Fin 8 → EReal => Scalar.xori (BitVec.ofBool (decide ((0 : EReal) < ∑ x : Fin 2048, ∑ z : Fin 8, f x z))) 1#1) h3)
  · exact (refMask_at _ _ _ _).symm

/-- The policy value at an index, by rows. -/
theorem pay1_at (lg : FVec Ideal S256x8 .f32) (mk : IVec S256x8 1) (y : Fin 256) (n : Fin 8) :
    k0_pay1 (F := Ideal) lg mk (ix2 y n) = polRow (fun x => lg (ix2 y x)) (fun x => mk (ix2 y x)) n := by
  pointwise [k0_pay1]
  rfl

/-- The reference's policy at an index, by rows. -/
theorem refPolicy_at (lg : FVec Ideal S32x64x8 .f32) (mk : IVec S32x64x8 1) (a : Fin 32) (b : Fin 64) (n : Fin 8) :
    refPolicy lg mk (ix3 a b n) = polRow (fun x => lg (ix3 a b x)) (fun x => mk (ix3 a b x)) n := by
  have h1 : (id (constant (F := Ideal) Cert.ReferenceIdeal.S_ .f32 0xF149F2CA#32) ix0 : EReal) = Ideal.ofBits .f32 4048155338#32 := rfl
  have h2 : (id (constant (F := Ideal) Cert.ReferenceIdeal.S_ .f32 0x00000000#32) ix0 : EReal) = 0 := Ideal.ofBits_zero_f32
  pointwise [refPolicy, refExps, refMasked]
  rw [h1, h2]
  rfl

/-- The index value at a row. -/
theorem pay2_at (lg : FVec Ideal S256x8 .f32) (mk : IVec S256x8 1) (g : FVec Ideal S256x8 .f32) (y : Fin 256) (z : Fin 1) :
    k0_pay2 (F := Ideal) lg mk g (ix2 y z)
      = argRow (fun x => Ideal.log (k0_pay1 lg mk (ix2 y x) + Ideal.ofBits FTy.f32 228737632#32) + g (ix2 y x)) := by
  pointwise [k0_pay2]
  rfl

end Cert.KernelIdeal.Hand

end
-- ==== Proof.KerOut.lean ====
/- The kernel's whole run: the three result buffers after it, as the reference's terms of the argument arrays. -/
module

public import proofs.«01_k».proof.Proof.KerVal

@[expose] public section

set_option maxRecDepth 16384

noncomputable section

namespace Cert.KernelIdeal.Hand

open Cert.KernelIdeal Cert.KernelIdeal.Gen Idealize.ShloMosaic Idealize.ShloMosaic.TcCoe Idealize.SL.Sem
open Cert.Hand Cert.ReferenceIdeal.Hand
open Idealize.ShloMosaic.Pipeline (Dat)

variable (m : (ℓ : Loc nD τ sig) → Buf (Elt Ideal) ℓ) (ρ : Dev nD → PrngReg)

/-- The table of noise is the same in the two programs. -/
theorem lit_eq : Cert.KernelIdeal.lit0 = Cert.ReferenceIdeal.lit0 := rfl

/-- The policy of a memory's arguments. -/
def kPolicy (c : Dev nD) : FVec Ideal S32x64x8 .f32 := refPolicy (kLogits m c) (kMask m c)

/-- The logits array: rows over both leading axes. -/
def G11 (c : Dev nD) : FVec Ideal S2048x8 .f32 := fun i =>
  kLogits m c (ix3 ⟨(i 0).val / 64, by have := (i 0).isLt; change (i 0).val < 2048 at this; omega⟩ ⟨(i 0).val % 64, Nat.mod_lt _ (by decide)⟩ (i 1))

/-- The policy array: rows over both leading axes. -/
def G12 (c : Dev nD) : FVec Ideal S2048x8 .f32 := fun i =>
  kPolicy m c (ix3 ⟨(i 0).val / 64, by have := (i 0).isLt; change (i 0).val < 2048 at this; omega⟩ ⟨(i 0).val % 64, Nat.mod_lt _ (by decide)⟩ (i 1))

/-- The index array: one position per row. -/
def G13 (c : Dev nD) : IVec S2048x1 32 := fun i => refArgmax (refScore (kPolicy m c)) (ix1 (i 0))

/-- The policy row of global row `256 t + y`. -/
theorem policy_point (c : Dev nD) (t : Fin cfg0.N) (ht : t.val < 8) (y : Fin 256) (n : Fin 8)
    (lg : FVec Ideal S256x8 .f32) (mk : IVec S256x8 1)
    (hl : ∀ x : Fin 8, lg (ix2 y x) = kLogits m c (ix3 ⟨(256 * t.val + y.val) / 64, by omega⟩ ⟨(256 * t.val + y.val) % 64, by omega⟩ x))
    (hm : ∀ x : Fin 8, mk (ix2 y x) = kMask m c (ix3 ⟨(256 * t.val + y.val) / 64, by omega⟩ ⟨(256 * t.val + y.val) % 64, by omega⟩ x)) :
    k0_pay1 (F := Ideal) lg mk (ix2 y n)
      = kPolicy m c (ix3 ⟨(256 * t.val + y.val) / 64, by omega⟩ ⟨(256 * t.val + y.val) % 64, by omega⟩ n) := by
  refine (pay1_at lg mk y n).trans (Eq.trans ?_ (refPolicy_at _ _ _ _ n).symm)
  rw [show (fun x => lg (ix2 y x)) = _ from funext hl, show (fun x => mk (ix2 y x)) = _ from funext hm]

/-- The reference's scores at an index. -/
theorem refScore_at (pol : FVec Ideal S32x64x8 .f32) (R : Fin 2048) (x : Fin 8) :
    refScore pol (ix2 R x) = Ideal.log (pol (ix3 ⟨R.val / 64, by omega⟩ ⟨R.val % 64, by omega⟩ x) + Ideal.ofBits FTy.f32 228737632#32)
      + Ideal.ofBits FTy.f32 (Cert.ReferenceIdeal.lit0 (S2048x8.rowMajor (ix2 R x))) := by
  pointwise [refScore]

/-- The position for global row `256 t + y`. -/
theorem index_point (c : Dev nD) (t : Fin cfg0.N) (ht : t.val < 8) (y : Fin 256) (z : Fin 1)
    (lg : FVec Ideal S256x8 .f32) (mk : IVec S256x8 1)
    (hl : ∀ x : Fin 8, lg (ix2 y x) = kLogits m c (ix3 ⟨(256 * t.val + y.val) / 64, by omega⟩ ⟨(256 * t.val + y.val) % 64, by omega⟩ x))
    (hm : ∀ x : Fin 8, mk (ix2 y x) = kMask m c (ix3 ⟨(256 * t.val + y.val) / 64, by omega⟩ ⟨(256 * t.val + y.val) % 64, by omega⟩ x)) :
    k0_pay2 (F := Ideal) lg mk (iblk m c 4 t) (ix2 y z)
      = refArgmax (refScore (kPolicy m c)) (ix1 ⟨256 * t.val + y.val, by omega⟩) := by
  refine (pay2_at lg mk (iblk m c 4 t) y z).trans (Eq.trans ?_ (refArgmax_at _ _).symm)
  refine congrArg argRow (funext fun x => ?_)
  refine Eq.trans ?_ (refScore_at _ _ x).symm
  rw [policy_point m c t ht y x lg mk hl hm]
  exact congrArg _ ((blk4_at m c t ht y x).trans (by rw [lit_eq]))

/-- The block of logits at a point, as the frame states it. -/
theorem pay21_point (c : Dev nD) (t : Fin cfg0.N) (ht : t.val < 8) (y : Fin 256) (n : Fin 8) :
    k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y n)
      = kLogits m c (ix3 ⟨(256 * t.val + y.val) / 64, by omega⟩ ⟨(256 * t.val + y.val) % 64, by omega⟩ n) := by
  refine Eq.trans ?_ (logits_point m c t ht y n)
  unfold k0_pay21 k0_pay20 k0_pay19 k0_pay18 k0_pay17 k0_pay16 k0_pay15 k0_pay14 k0_pay13 k0_pay12
  frame_out
  rfl

/-- The block of the mask in force at a point, as the frame states it. -/
theorem pay22_point (c : Dev nD) (t : Fin cfg0.N) (ht : t.val < 8) (y : Fin 256) (n : Fin 8) :
    k0_pay22 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 y n)
      = kMask m c (ix3 ⟨(256 * t.val + y.val) / 64, by omega⟩ ⟨(256 * t.val + y.val) % 64, by omega⟩ n) := by
  refine Eq.trans ?_ (mask_point m c t ht y n)
  unfold k0_pay22
  frame_out

/-- The target of the logits at an index of the run's arrays. -/
theorem G11_emb (c : Dev nD) (t : Fin cfg0.N) (ht : t.val < 8) (y : Fin 256) (n : Fin 8) :
    G11 m c (((View.whole main_v7_0).slice (win0_11.rect t)).emb (ix2 y n))
      = kLogits m c (ix3 ⟨(256 * t.val + y.val) / 64, by omega⟩ ⟨(256 * t.val + y.val) % 64, by omega⟩ n) := by
  have e : ((View.whole main_v7_0).slice (win0_11.rect t)).emb (ix2 y n) = (ix2 ⟨256 * t.val + y.val, by omega⟩ n : S2048x8.Idx) := by
    blk_ext [idx t]
  rw [e]; rfl

/-- The target of the policy at an index of the run's arrays. -/
theorem G12_emb (c : Dev nD) (t : Fin cfg0.N) (ht : t.val < 8) (y : Fin 256) (n : Fin 8) :
    G12 m c (((View.whole main_v7_1).slice (win0_12.rect t)).emb (ix2 y n))
      = kPolicy m c (ix3 ⟨(256 * t.val + y.val) / 64, by omega⟩ ⟨(256 * t.val + y.val) % 64, by omega⟩ n) := by
  have e : ((View.whole main_v7_1).slice (win0_12.rect t)).emb (ix2 y n) = (ix2 ⟨256 * t.val + y.val, by omega⟩ n : S2048x8.Idx) := by
    blk_ext [idx t]
  rw [e]; rfl

/-- The target of the position at an index of the run's arrays. -/
theorem G13_emb (c : Dev nD) (t : Fin cfg0.N) (ht : t.val < 8) (y : Fin 256) (z : Fin 1) :
    G13 m c (((View.whole main_v7_2).slice (win0_13.rect t)).emb (ix2 y z))
      = refArgmax (refScore (kPolicy m c)) (ix1 ⟨256 * t.val + y.val, by omega⟩) := by
  have e : ((View.whole main_v7_2).slice (win0_13.rect t)).emb (ix2 y z) = (ix2 ⟨256 * t.val + y.val, by omega⟩ z : S2048x1.Idx) := by
    blk_ext [idx t]
  rw [e]; rfl

/-- The logits array after the run. -/
theorem final11 (c : Dev nD) : (dats m 0 c).arrAt 11 (cfgs 0).N = G11 m c := by
  refine (dats m 0 c).arrAt_eq_of_covers 11 _ (by decide +kernel) fun t _ y => ?_
  obtain ⟨a, b, rfl⟩ : ∃ (a : Fin 256) (b : Fin 8), y = ix2 a b := ⟨y 0, y 1, by ext i; fin_cases i <;> rfl⟩
  blk_simp
  rw [after0_11]
  frame_out
  exact (pay21_point m c t t.isLt a b).trans (G11_emb m c t t.isLt a b).symm

/-- The policy array after the run. -/
theorem final12 (c : Dev nD) : (dats m 0 c).arrAt 12 (cfgs 0).N = G12 m c := by
  refine (dats m 0 c).arrAt_eq_of_covers 12 _ (by decide +kernel) fun t _ y => ?_
  obtain ⟨a, b, rfl⟩ : ∃ (a : Fin 256) (b : Fin 8), y = ix2 a b := ⟨y 0, y 1, by ext i; fin_cases i <;> rfl⟩
  blk_simp
  rw [after0_12]
  frame_out
  exact (policy_point m c t t.isLt a b _ _ (pay21_point m c t t.isLt a) (pay22_point m c t t.isLt a)).trans
    (G12_emb m c t t.isLt a b).symm

/-- The index array after the run. -/
theorem final13 (c : Dev nD) : (dats m 0 c).arrAt 13 (cfgs 0).N = G13 m c := by
  refine (dats m 0 c).arrAt_eq_of_covers 13 _ (by decide +kernel) fun t _ y => ?_
  obtain ⟨a, b, rfl⟩ : ∃ (a : Fin 256) (b : Fin 1), y = ix2 a b := ⟨y 0, y 1, by ext i; fin_cases i <;> rfl⟩
  blk_simp
  rw [after0_13]
  frame_out
  exact (index_point m c t t.isLt a b _ _ (pay21_point m c t t.isLt a) (pay22_point m c t t.isLt a)).trans
    (G13_emb m c t t.isLt a b).symm

/-- A result reshaped from rows back over both leading axes. -/
theorem cast_back (x : FVec Ideal S32x64x8 .f32) (g : FVec Ideal S2048x8 .f32)
    (hg : ∀ (R : Fin 2048) (n : Fin 8), g (ix2 R n) = x (ix3 ⟨R.val / 64, by omega⟩ ⟨R.val % 64, by omega⟩ n)) :
    shapeCast S32x64x8 g shapeCasts_S2048x8_S32x64x8 = x := by
  obtain rfl : g = fun i => x (ix3 ⟨(i 0).val / 64, by have := (i 0).isLt; change (i 0).val < 2048 at this; omega⟩ ⟨(i 0).val % 64, Nat.mod_lt _ (by decide)⟩ (i 1)) := by
    funext i
    obtain ⟨a, b, rfl⟩ : ∃ (a : Fin 2048) (b : Fin 8), i = ix2 a b := ⟨i 0, i 1, by ext k; fin_cases k <;> rfl⟩
    exact hg a b
  funext i
  obtain ⟨a, b, n, rfl⟩ : ∃ (a : Fin 32) (b : Fin 64) (n : Fin 8), i = ix3 a b n := ⟨i 0, i 1, i 2, by ext k; fin_cases k <;> rfl⟩
  pointwise
  have ha : (⟨(a.val * 64 + b.val) / 64, by omega⟩ : Fin 32) = a := Fin.ext (by show (a.val * 64 + b.val) / 64 = a.val; omega)
  have hb : (⟨(a.val * 64 + b.val) % 64, by omega⟩ : Fin 64) = b := Fin.ext (by show (a.val * 64 + b.val) % 64 = b.val; omega)
  exact congrArg₂ (fun p q => x (ix3 p q n)) ha hb

/-- The positions reshaped from rows back over both leading axes. -/
theorem cast_back_index (s : FVec Ideal S2048x8 .f32) :
    shapeCast S32x64x1 (fun i : S2048x1.Idx => refArgmax s (ix1 (i 0))) shapeCasts_S2048x1_S32x64x1 = refIndex s := by
  funext i
  pointwise [refIndex]

/-- The arrays after the region, at a window's array. -/
theorem reads (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w (cfgs 0).N :=
  (dats m 0 c).withArrays_arrAt launch₀0.sharedIn (V0 m c) (A_eq m c) w

/-- The logits buffer after the host's reshape. -/
theorem W_main_v8 (c : Dev nD) : Pipeline.afterTail₀ cfgs (dats m) 0 (V0 m) [hostOps1] c main_v8 = kLogits m c := by
  have e := (reads m c 11).trans (final11 m c)
  unfold Pipeline.afterTail₀
  simp only [hostOps1, List.flatten_cons, List.flatten_nil, List.append_nil]
  after_results_simp
  refine Eq.trans ?_ (cast_back (kLogits m c) (G11 m c) fun _ _ => rfl)
  exact congrArg (fun g => shapeCast S32x64x8 g shapeCasts_S2048x8_S32x64x8) e

/-- The policy buffer after the host's reshape. -/
theorem W_main_v9 (c : Dev nD) : Pipeline.afterTail₀ cfgs (dats m) 0 (V0 m) [hostOps1] c main_v9 = kPolicy m c := by
  have e := (reads m c 12).trans (final12 m c)
  unfold Pipeline.afterTail₀
  simp only [hostOps1, List.flatten_cons, List.flatten_nil, List.append_nil]
  after_results_simp
  refine Eq.trans ?_ (cast_back (kPolicy m c) (G12 m c) fun _ _ => rfl)
  exact congrArg (fun g => shapeCast S32x64x8 g shapeCasts_S2048x8_S32x64x8) e

/-- The index buffer after the host's reshape. -/
theorem W_main_v10 (c : Dev nD) : Pipeline.afterTail₀ cfgs (dats m) 0 (V0 m) [hostOps1] c main_v10 = refIndex (refScore (kPolicy m c)) := by
  have e := (reads m c 13).trans (final13 m c)
  unfold Pipeline.afterTail₀
  simp only [hostOps1, List.flatten_cons, List.flatten_nil, List.append_nil]
  after_results_simp
  refine Eq.trans ?_ (cast_back_index (refScore (kPolicy m c)))
  exact congrArg (fun g => shapeCast S32x64x1 g shapeCasts_S2048x1_S32x64x1) e

/-- Every run of the kernel ends with the three results at the reference's terms of the arguments, and the
    arguments unchanged. -/
theorem run : θ_run defs (onTc (τ := τ) (main (F := Ideal))) ⟨m, fun _ => 0, ρ⟩ (fun r => ∀ c : Dev nD,
      r.2.mem ((c.tc : Thread nD τ).loc main_v8) = kLogits m c
      ∧ r.2.mem ((c.tc : Thread nD τ).loc main_v9) = kPolicy m c
      ∧ r.2.mem ((c.tc : Thread nD τ).loc main_v10) = refIndex (refScore (kPolicy m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v8 (Pipeline.mem_restRefs_of main_v8 (by decide) (by decide))).trans (W_main_v8 m c),
      ((h c).2 main_v9 (Pipeline.mem_restRefs_of main_v9 (by decide) (by decide))).trans (W_main_v9 m c),
      ((h c).2 main_v10 (Pipeline.mem_restRefs_of main_v10 (by decide) (by decide))).trans (W_main_v10 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 9).trans (((dats m 0 c).arrAt_in 9 rfl _).trans ((A_eq m c 9).trans (V_main_arg4 m c))),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).1 7).trans (((dats m 0 c).arrAt_in 7 rfl _).trans ((A_eq m c 7).trans (V_main_arg8 m c))),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.RefRun
public import proofs.«01_k».proof.Proof.KerOut

@[expose] public section

noncomputable section

namespace Cert.Proof

open Idealize.ShloMosaic Idealize.SL.Sem

/-- The reference's frame: its run ends with its arguments unchanged, and it declares no semaphore. -/
theorem frame_ri : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Hand.run (F := Ideal) m ρ)

/-- The kernel's logits, policy and index are the reference's: each run ends at the same terms of the argument
    arrays, on which the two memories agree. -/
theorem algebraic : Cert.algebraic_KernelIdeal_ReferenceIdeal := by
  intro m g m' g' _ hagree
  refine ⟨fun c => Cert.KernelIdeal.Hand.kLogits m c, fun c => Cert.KernelIdeal.Hand.kPolicy m c,
    fun c => Cert.ReferenceIdeal.Hand.refIndex (Cert.ReferenceIdeal.Hand.refScore (Cert.KernelIdeal.Hand.kPolicy m c)),
    Cert.KernelIdeal.Hand.run m g, ?_⟩
  have hL : ∀ c, Cert.ReferenceIdeal.Hand.outLogits m' c = Cert.KernelIdeal.Hand.kLogits m c := by
    intro c
    obtain ⟨h0, h1, h2, h3, h4, h5, h6, h7, h8, h9, h10, h11⟩ := hagree c
    unfold Cert.ReferenceIdeal.Hand.outLogits Cert.KernelIdeal.Hand.kLogits
    rw [h1, h2, h4, h5, h6, h7, h8, h9]
  have hP : ∀ c, Cert.ReferenceIdeal.Hand.outPolicy m' c = Cert.KernelIdeal.Hand.kPolicy m c := by
    intro c
    obtain ⟨h0, h1, h2, h3, h4, h5, h6, h7, h8, h9, h10, h11⟩ := hagree c
    unfold Cert.ReferenceIdeal.Hand.outPolicy Cert.KernelIdeal.Hand.kPolicy Cert.KernelIdeal.Hand.kMask
    rw [hL c, h3]
  have hI : ∀ c, Cert.ReferenceIdeal.Hand.outIndex m' c
      = Cert.ReferenceIdeal.Hand.refIndex (Cert.ReferenceIdeal.Hand.refScore (Cert.KernelIdeal.Hand.kPolicy m c)) := by
    intro c
    unfold Cert.ReferenceIdeal.Hand.outIndex
    rw [hP c]
  exact (θ_run Cert.ReferenceIdeal.defs _ _).mono (fun r h c =>
      ⟨(h c).1.trans (hL c), (h c).2.1.trans (hP c), (h c).2.2.1.trans (hI c), (h c).2.2.2⟩)
    (Cert.ReferenceIdeal.Hand.run (F := Ideal) m' g')

/-- All five claims of the test file. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ri, trivial, algebraic⟩

end Cert.Proof

end
